-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S224x2x512 Cert.KernelIdeal.S224x1x512
  ∧ IdealRules.bf16_pair.PackStatement Cert.KernelIdeal.S8x512
  ∧ IdealRules.bf16_pair.Statement Cert.KernelIdeal.S8x2x512 Cert.KernelIdeal.S8x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x7168 : Shape := ⟨3, ![192, 1, 7168]⟩
abbrev S5120x3584 : Shape := ⟨2, ![5120, 3584]⟩
abbrev S5120x28 : Shape := ⟨2, ![5120, 28]⟩
abbrev S5120x224 : Shape := ⟨2, ![5120, 224]⟩
abbrev S192x7168 : Shape := ⟨2, ![192, 7168]⟩
abbrev S28x5120 : Shape := ⟨2, ![28, 5120]⟩
abbrev S224x5120 : Shape := ⟨2, ![224, 5120]⟩
abbrev S192x5120 : Shape := ⟨2, ![192, 5120]⟩
abbrev S512x3584 : Shape := ⟨2, ![512, 3584]⟩
abbrev S28x512 : Shape := ⟨2, ![28, 512]⟩
abbrev S224x512 : Shape := ⟨2, ![224, 512]⟩
abbrev S192x512 : Shape := ⟨2, ![192, 512]⟩
abbrev S7168x512 : Shape := ⟨2, ![7168, 512]⟩
abbrev S8x512 : Shape := ⟨2, ![8, 512]⟩
abbrev S1x512 : Shape := ⟨2, ![1, 512]⟩
abbrev S512x128 : Shape := ⟨2, ![512, 128]⟩
abbrev S128x512 : Shape := ⟨2, ![128, 512]⟩
abbrev S32x512 : Shape := ⟨2, ![32, 512]⟩
abbrev S16x512 : Shape := ⟨2, ![16, 512]⟩
abbrev S192x1x5120 : Shape := ⟨3, ![192, 1, 5120]⟩

abbrev nBuf : Space → Nat
  | .hbm => 13
  | .vmem => 16
  | .smem => 0
  | _ => 0

abbrev bufTy : (tb : Table) → Fin (tcTables nBuf tb) → BufTy
  | .hbm, ⟨0, _⟩ => ⟨S192x1x7168, .bf16⟩
  | .hbm, ⟨1, _⟩ => ⟨S5120x3584, .i8⟩
  | .hbm, ⟨2, _⟩ => ⟨S5120x28, .f16⟩
  | .hbm, ⟨3, _⟩ => ⟨S5120x28, .f16⟩
  | .hbm, ⟨4, _⟩ => ⟨S5120x224, .i8⟩
  | .hbm, ⟨5, _⟩ => ⟨S5120x224, .i8⟩
  | .hbm, ⟨6, _⟩ => ⟨S192x7168, .bf16⟩
  | .hbm, ⟨7, _⟩ => ⟨S28x5120, .f16⟩
  | .hbm, ⟨8, _⟩ => ⟨S28x5120, .f16⟩
  | .hbm, ⟨9, _⟩ => ⟨S224x5120, .i8⟩
  | .hbm, ⟨10, _⟩ => ⟨S224x5120, .i8⟩
  | .hbm, ⟨11, _⟩ => ⟨S192x5120, .bf16⟩
  | .hbm, ⟨12, _⟩ => ⟨S192x1x5120, .bf16⟩
  | .local _ .vmem, ⟨0, _⟩ => ⟨S192x7168, .bf16⟩
  | .local _ .vmem, ⟨1, _⟩ => ⟨S512x3584, .i8⟩
  | .local _ .vmem, ⟨2, _⟩ => ⟨S512x3584, .i8⟩
  | .local _ .vmem, ⟨3, _⟩ => ⟨S28x512, .f16⟩
  | .local _ .vmem, ⟨4, _⟩ => ⟨S28x512, .f16⟩
  | .local _ .vmem, ⟨5, _⟩ => ⟨S28x512, .f16⟩
  | .local _ .vmem, ⟨6, _⟩ => ⟨S28x512, .f16⟩
  | .local _ .vmem, ⟨7, _⟩ => ⟨S224x512, .i8⟩
  | .local _ .vmem, ⟨8, _⟩ => ⟨S224x512, .i8⟩
  | .local _ .vmem, ⟨9, _⟩ => ⟨S224x512, .i8⟩
  | .local _ .vmem, ⟨10, _⟩ => ⟨S224x512, .i8⟩
  | .local _ .vmem, ⟨11, _⟩ => ⟨S192x512, .bf16⟩
  | .local _ .vmem, ⟨12, _⟩ => ⟨S192x512, .bf16⟩
  | .local _ .vmem, ⟨13, _⟩ => ⟨S224x512, .i32⟩
  | .local _ .vmem, ⟨14, _⟩ => ⟨S224x512, .i32⟩
  | .local _ .vmem, ⟨15, _⟩ => ⟨S7168x512, .bf16⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![10], ![false]⟩

@[reducible] def k0_t1_loop : Scf.Loop 32 :=
  let c0_i32 : BitVec 32 := 0#32
  let c28_i32 : BitVec 32 := 28#32
  let v0 : BitVec 32 := Scalar.addi c0_i32 c28_i32
  let c1_i32 : BitVec 32 := 1#32
  ⟨c0_i32, v0, c1_i32⟩
def k0_mult1 (k0_t1 : Fin k0_t1_loop.trips) : BitVec 32 :=
  let c8_i32 : BitVec 32 := 8#32
  let c0_i32 : BitVec 32 := 0#32
  let c1_i32 : BitVec 32 := 1#32
  let arg11 : BitVec 32 := Scf.iv c0_i32 c1_i32 k0_t1
  let v8 : BitVec 32 := Scalar.muli c8_i32 arg11
  v8
def k0_off1 (k0_t1 : Fin k0_t1_loop.trips) : Fin 2 → Nat :=
  let c8_i32 : BitVec 32 := 8#32
  let c0_i32 : BitVec 32 := 0#32
  let c1_i32 : BitVec 32 := 1#32
  let arg11 : BitVec 32 := Scf.iv c0_i32 c1_i32 k0_t1
  let v8 : BitVec 32 := Scalar.muli c8_i32 arg11
  let v9 : BitVec 32 := v8
  let v10 : Index := Scalar.indexCast v9
  let c0_10 : Index := 0#32
  ![v10.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let v15 : Index := Scalar.indexCast arg11
  let c0_11 : Index := 0#32
  ![v15.toNat, 0]
@[reducible] def k0_t2_loop : Scf.Loop 32 :=
  let c0_i32_1 : BitVec 32 := 0#32
  let c28_i32_2 : BitVec 32 := 28#32
  let v1 : BitVec 32 := Scalar.addi c0_i32_1 c28_i32_2
  let c1_i32_3 : BitVec 32 := 1#32
  ⟨c0_i32_1, v1, c1_i32_3⟩
def k0_mult2 (k0_t2 : Fin k0_t2_loop.trips) : BitVec 32 :=
  let c128_i32 : BitVec 32 := 128#32
  let c0_i32_1 : BitVec 32 := 0#32
  let c1_i32_3 : BitVec 32 := 1#32
  let arg11 : BitVec 32 := Scf.iv c0_i32_1 c1_i32_3 k0_t2
  let v8 : BitVec 32 := Scalar.muli c128_i32 arg11
  v8
def k0_off3 (k0_t2 : Fin k0_t2_loop.trips) : Fin 2 → Nat :=
  let c0_10 : Index := 0#32
  let c128_i32 : BitVec 32 := 128#32
  let c0_i32_1 : BitVec 32 := 0#32
  let c1_i32_3 : BitVec 32 := 1#32
  let arg11 : BitVec 32 := Scf.iv c0_i32_1 c1_i32_3 k0_t2
  let v8 : BitVec 32 := Scalar.muli c128_i32 arg11
  let v9 : BitVec 32 := v8
  let v10 : Index := Scalar.indexCast v9
  ![0, v10.toNat]
def k0_off4 (k0_t2 : Fin k0_t2_loop.trips) (c0_i32_12 : BitVec 32) (c0_i32_13 : BitVec 32) : Fin 2 → Nat :=
  let c8_i32 : BitVec 32 := 8#32
  let c0_i32_1 : BitVec 32 := 0#32
  let c1_i32_3 : BitVec 32 := 1#32
  let arg11 : BitVec 32 := Scf.iv c0_i32_1 c1_i32_3 k0_t2
  let v24 : BitVec 32 := Scalar.muli c8_i32 arg11
  let v25 : BitVec 32 := Scalar.addi v24 c0_i32_12
  let v26 : BitVec 32 := Scalar.addi v25 c0_i32_13
  let v28 : Index := Scalar.indexCast v26
  let c0_14 : Index := 0#32
  ![v28.toNat, 0]
def k0_mult3 (k0_t2 : Fin k0_t2_loop.trips) : BitVec 32 :=
  let c32_i32 : BitVec 32 := 32#32
  let c8_i32 : BitVec 32 := 8#32
  let c0_i32_1 : BitVec 32 := 0#32
  let c1_i32_3 : BitVec 32 := 1#32
  let arg11 : BitVec 32 := Scf.iv c0_i32_1 c1_i32_3 k0_t2
  let v24 : BitVec 32 := Scalar.muli c8_i32 arg11
  let c0_i32_12 : BitVec 32 := 0#32
  let v25 : BitVec 32 := Scalar.addi v24 c0_i32_12
  let c0_i32_13 : BitVec 32 := 0#32
  let v26 : BitVec 32 := Scalar.addi v25 c0_i32_13
  let v40 : BitVec 32 := Scalar.muli c32_i32 v26
  v40
def k0_off5 (k0_t2 : Fin k0_t2_loop.trips) (c0_i32_12 : BitVec 32) (c0_i32_13 : BitVec 32) : Fin 2 → Nat :=
  let c32_i32 : BitVec 32 := 32#32
  let c8_i32 : BitVec 32 := 8#32
  let c0_i32_1 : BitVec 32 := 0#32
  let c1_i32_3 : BitVec 32 := 1#32
  let arg11 : BitVec 32 := Scf.iv c0_i32_1 c1_i32_3 k0_t2
  let v24 : BitVec 32 := Scalar.muli c8_i32 arg11
  let v25 : BitVec 32 := Scalar.addi v24 c0_i32_12
  let v26 : BitVec 32 := Scalar.addi v25 c0_i32_13
  let v40 : BitVec 32 := Scalar.muli c32_i32 v26
  let v41 : BitVec 32 := v40
  let v42 : Index := Scalar.indexCast v41
  let c0_16 : Index := 0#32
  ![v42.toNat, 0]
def k0_mult4 (k0_t2 : Fin k0_t2_loop.trips) : BitVec 32 :=
  let c32_i32_22 : BitVec 32 := 32#32
  let c8_i32_17 : BitVec 32 := 8#32
  let c0_i32_1 : BitVec 32 := 0#32
  let c1_i32_3 : BitVec 32 := 1#32
  let arg11 : BitVec 32 := Scf.iv c0_i32_1 c1_i32_3 k0_t2
  let v46 : BitVec 32 := Scalar.muli c8_i32_17 arg11
  let c0_i32_18 : BitVec 32 := 0#32
  let v47 : BitVec 32 := Scalar.addi v46 c0_i32_18
  let c1_i32_19 : BitVec 32 := 1#32
  let v48 : BitVec 32 := Scalar.addi v47 c1_i32_19
  let v62 : BitVec 32 := Scalar.muli c32_i32_22 v48
  v62
def k0_mult5 (k0_t2 : Fin k0_t2_loop.trips) : BitVec 32 :=
  let c32_i32_28 : BitVec 32 := 32#32
  let c8_i32_24 : BitVec 32 := 8#32
  let c0_i32_1 : BitVec 32 := 0#32
  let c1_i32_3 : BitVec 32 := 1#32
  let arg11 : BitVec 32 := Scf.iv c0_i32_1 c1_i32_3 k0_t2
  let v68 : BitVec 32 := Scalar.muli c8_i32_24 arg11
  let c2_i32 : BitVec 32 := 2#32
  let v69 : BitVec 32 := Scalar.addi v68 c2_i32
  let c0_i32_25 : BitVec 32 := 0#32
  let v70 : BitVec 32 := Scalar.addi v69 c0_i32_25
  let v84 : BitVec 32 := Scalar.muli c32_i32_28 v70
  v84
def k0_mult6 (k0_t2 : Fin k0_t2_loop.trips) : BitVec 32 :=
  let c32_i32_35 : BitVec 32 := 32#32
  let c8_i32_30 : BitVec 32 := 8#32
  let c0_i32_1 : BitVec 32 := 0#32
  let c1_i32_3 : BitVec 32 := 1#32
  let arg11 : BitVec 32 := Scf.iv c0_i32_1 c1_i32_3 k0_t2
  let v90 : BitVec 32 := Scalar.muli c8_i32_30 arg11
  let c2_i32_31 : BitVec 32 := 2#32
  let v91 : BitVec 32 := Scalar.addi v90 c2_i32_31
  let c1_i32_32 : BitVec 32 := 1#32
  let v92 : BitVec 32 := Scalar.addi v91 c1_i32_32
  let v106 : BitVec 32 := Scalar.muli c32_i32_35 v92
  v106
def k0_mult7 (k0_t2 : Fin k0_t2_loop.trips) : BitVec 32 :=
  let c32_i32_42 : BitVec 32 := 32#32
  let c8_i32_37 : BitVec 32 := 8#32
  let c0_i32_1 : BitVec 32 := 0#32
  let c1_i32_3 : BitVec 32 := 1#32
  let arg11 : BitVec 32 := Scf.iv c0_i32_1 c1_i32_3 k0_t2
  let v112 : BitVec 32 := Scalar.muli c8_i32_37 arg11
  let c4_i32_38 : BitVec 32 := 4#32
  let v113 : BitVec 32 := Scalar.addi v112 c4_i32_38
  let c0_i32_39 : BitVec 32 := 0#32
  let v114 : BitVec 32 := Scalar.addi v113 c0_i32_39
  let v128 : BitVec 32 := Scalar.muli c32_i32_42 v114
  v128
def k0_mult8 (k0_t2 : Fin k0_t2_loop.trips) : BitVec 32 :=
  let c32_i32_49 : BitVec 32 := 32#32
  let c8_i32_44 : BitVec 32 := 8#32
  let c0_i32_1 : BitVec 32 := 0#32
  let c1_i32_3 : BitVec 32 := 1#32
  let arg11 : BitVec 32 := Scf.iv c0_i32_1 c1_i32_3 k0_t2
  let v134 : BitVec 32 := Scalar.muli c8_i32_44 arg11
  let c4_i32_45 : BitVec 32 := 4#32
  let v135 : BitVec 32 := Scalar.addi v134 c4_i32_45
  let c1_i32_46 : BitVec 32 := 1#32
  let v136 : BitVec 32 := Scalar.addi v135 c1_i32_46
  let v150 : BitVec 32 := Scalar.muli c32_i32_49 v136
  v150
def k0_mult9 (k0_t2 : Fin k0_t2_loop.trips) : BitVec 32 :=
  let c32_i32_55 : BitVec 32 := 32#32
  let c8_i32_51 : BitVec 32 := 8#32
  let c0_i32_1 : BitVec 32 := 0#32
  let c1_i32_3 : BitVec 32 := 1#32
  let arg11 : BitVec 32 := Scf.iv c0_i32_1 c1_i32_3 k0_t2
  let v156 : BitVec 32 := Scalar.muli c8_i32_51 arg11
  let c6_i32 : BitVec 32 := 6#32
  let v157 : BitVec 32 := Scalar.addi v156 c6_i32
  let c0_i32_52 : BitVec 32 := 0#32
  let v158 : BitVec 32 := Scalar.addi v157 c0_i32_52
  let v172 : BitVec 32 := Scalar.muli c32_i32_55 v158
  v172
def k0_mult10 (k0_t2 : Fin k0_t2_loop.trips) : BitVec 32 :=
  let c32_i32_62 : BitVec 32 := 32#32
  let c8_i32_57 : BitVec 32 := 8#32
  let c0_i32_1 : BitVec 32 := 0#32
  let c1_i32_3 : BitVec 32 := 1#32
  let arg11 : BitVec 32 := Scf.iv c0_i32_1 c1_i32_3 k0_t2
  let v178 : BitVec 32 := Scalar.muli c8_i32_57 arg11
  let c6_i32_58 : BitVec 32 := 6#32
  let v179 : BitVec 32 := Scalar.addi v178 c6_i32_58
  let c1_i32_59 : BitVec 32 := 1#32
  let v180 : BitVec 32 := Scalar.addi v179 c1_i32_59
  let v194 : BitVec 32 := Scalar.muli c32_i32_62 v180
  v194
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x512 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x512 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S192x1x7168 : Shape := ⟨3, ![192, 1, 7168]⟩
abbrev S5120x3584 : Shape := ⟨2, ![5120, 3584]⟩
abbrev S5120x28 : Shape := ⟨2, ![5120, 28]⟩
abbrev S5120x224 : Shape := ⟨2, ![5120, 224]⟩
abbrev S192x7168 : Shape := ⟨2, ![192, 7168]⟩
abbrev S28x5120 : Shape := ⟨2, ![28, 5120]⟩
abbrev S224x5120 : Shape := ⟨2, ![224, 5120]⟩
abbrev S192x5120 : Shape := ⟨2, ![192, 5120]⟩
abbrev S512x3584 : Shape := ⟨2, ![512, 3584]⟩
abbrev S28x512 : Shape := ⟨2, ![28, 512]⟩
abbrev S224x512 : Shape := ⟨2, ![224, 512]⟩
abbrev S192x512 : Shape := ⟨2, ![192, 512]⟩
abbrev S224x2x512 : Shape := ⟨3, ![224, 2, 512]⟩
abbrev S224x1x512 : Shape := ⟨3, ![224, 1, 512]⟩
abbrev S7168x512 : Shape := ⟨2, ![7168, 512]⟩
abbrev S8x512 : Shape := ⟨2, ![8, 512]⟩
abbrev S1x512 : Shape := ⟨2, ![1, 512]⟩
abbrev S8x2x512 : Shape := ⟨3, ![8, 2, 512]⟩
abbrev S8x1x512 : Shape := ⟨3, ![8, 1, 512]⟩
abbrev S512x128 : Shape := ⟨2, ![512, 128]⟩
abbrev S128x512 : Shape := ⟨2, ![128, 512]⟩
abbrev S32x512 : Shape := ⟨2, ![32, 512]⟩
abbrev S1x2x512 : Shape := ⟨3, ![1, 2, 512]⟩
abbrev S1x1x512 : Shape := ⟨3, ![1, 1, 512]⟩
abbrev S16x512 : Shape := ⟨2, ![16, 512]⟩
abbrev S192x1x5120 : Shape := ⟨3, ![192, 1, 5120]⟩

abbrev nBuf : Space → Nat
  | .hbm => 13
  | .vmem => 16
  | .smem => 0
  | _ => 0

abbrev bufTy : (tb : Table) → Fin (tcTables nBuf tb) → BufTy
  | .hbm, ⟨0, _⟩ => ⟨S192x1x7168, .bf16⟩
  | .hbm, ⟨1, _⟩ => ⟨S5120x3584, .i8⟩
  | .hbm, ⟨2, _⟩ => ⟨S5120x28, .f16⟩
  | .hbm, ⟨3, _⟩ => ⟨S5120x28, .f16⟩
  | .hbm, ⟨4, _⟩ => ⟨S5120x224, .i8⟩
  | .hbm, ⟨5, _⟩ => ⟨S5120x224, .i8⟩
  | .hbm, ⟨6, _⟩ => ⟨S192x7168, .bf16⟩
  | .hbm, ⟨7, _⟩ => ⟨S28x5120, .f16⟩
  | .hbm, ⟨8, _⟩ => ⟨S28x5120, .f16⟩
  | .hbm, ⟨9, _⟩ => ⟨S224x5120, .i8⟩
  | .hbm, ⟨10, _⟩ => ⟨S224x5120, .i8⟩
  | .hbm, ⟨11, _⟩ => ⟨S192x5120, .bf16⟩
  | .hbm, ⟨12, _⟩ => ⟨S192x1x5120, .bf16⟩
  | .local _ .vmem, ⟨0, _⟩ => ⟨S192x7168, .bf16⟩
  | .local _ .vmem, ⟨1, _⟩ => ⟨S512x3584, .i8⟩
  | .local _ .vmem, ⟨2, _⟩ => ⟨S512x3584, .i8⟩
  | .local _ .vmem, ⟨3, _⟩ => ⟨S28x512, .f16⟩
  | .local _ .vmem, ⟨4, _⟩ => ⟨S28x512, .f16⟩
  | .local _ .vmem, ⟨5, _⟩ => ⟨S28x512, .f16⟩
  | .local _ .vmem, ⟨6, _⟩ => ⟨S28x512, .f16⟩
  | .local _ .vmem, ⟨7, _⟩ => ⟨S224x512, .i8⟩
  | .local _ .vmem, ⟨8, _⟩ => ⟨S224x512, .i8⟩
  | .local _ .vmem, ⟨9, _⟩ => ⟨S224x512, .i8⟩
  | .local _ .vmem, ⟨10, _⟩ => ⟨S224x512, .i8⟩
  | .local _ .vmem, ⟨11, _⟩ => ⟨S192x512, .bf16⟩
  | .local _ .vmem, ⟨12, _⟩ => ⟨S192x512, .bf16⟩
  | .local _ .vmem, ⟨13, _⟩ => ⟨S224x2x512, .bf16⟩
  | .local _ .vmem, ⟨14, _⟩ => ⟨S224x2x512, .bf16⟩
  | .local _ .vmem, ⟨15, _⟩ => ⟨S7168x512, .bf16⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32 : BitVec 32 := 0#32
  let c28_i32 : BitVec 32 := 28#32
  let v0 : BitVec 32 := Scalar.addi c0_i32 c28_i32
  let c1_i32 : BitVec 32 := 1#32
  ⟨c0_i32, v0, c1_i32⟩
def k0_mult1 (k0_t1 : Fin k0_t1_loop.trips) : BitVec 32 :=
  let c8_i32 : BitVec 32 := 8#32
  let c0_i32 : BitVec 32 := 0#32
  let c1_i32 : BitVec 32 := 1#32
  let arg11 : BitVec 32 := Scf.iv c0_i32 c1_i32 k0_t1
  let v8 : BitVec 32 := Scalar.muli c8_i32 arg11
  v8
def k0_off1 (k0_t1 : Fin k0_t1_loop.trips) : Fin 2 → Nat :=
  let c8_i32 : BitVec 32 := 8#32
  let c0_i32 : BitVec 32 := 0#32
  let c1_i32 : BitVec 32 := 1#32
  let arg11 : BitVec 32 := Scf.iv c0_i32 c1_i32 k0_t1
  let v8 : BitVec 32 := Scalar.muli c8_i32 arg11
  let v9 : BitVec 32 := v8
  let v10 : Index := Scalar.indexCast v9
  let c0_10 : Index := 0#32
  ![v10.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let v15 : Index := Scalar.indexCast arg11
  let c0_11 : Index := 0#32
  ![v15.toNat, 0]
def k0_off3 (k0_t1 : Fin k0_t1_loop.trips) : Fin 3 → Nat :=
  let c8_i32 : BitVec 32 := 8#32
  let c0_i32 : BitVec 32 := 0#32
  let c1_i32 : BitVec 32 := 1#32
  let arg11 : BitVec 32 := Scf.iv c0_i32 c1_i32 k0_t1
  let v8 : BitVec 32 := Scalar.muli c8_i32 arg11
  let v9 : BitVec 32 := v8
  let v22 : Index := Scalar.indexCast v9
  let c0_12 : Index := 0#32
  ![v22.toNat, 0, 0]
@[reducible] def k0_t2_loop : Scf.Loop 32 :=
  let c0_i32_1 : BitVec 32 := 0#32
  let c28_i32_2 : BitVec 32 := 28#32
  let v1 : BitVec 32 := Scalar.addi c0_i32_1 c28_i32_2
  let c1_i32_3 : BitVec 32 := 1#32
  ⟨c0_i32_1, v1, c1_i32_3⟩
def k0_mult2 (k0_t2 : Fin k0_t2_loop.trips) : BitVec 32 :=
  let c128_i32 : BitVec 32 := 128#32
  let c0_i32_1 : BitVec 32 := 0#32
  let c1_i32_3 : BitVec 32 := 1#32
  let arg11 : BitVec 32 := Scf.iv c0_i32_1 c1_i32_3 k0_t2
  let v8 : BitVec 32 := Scalar.muli c128_i32 arg11
  v8
def k0_off4 (k0_t2 : Fin k0_t2_loop.trips) : Fin 2 → Nat :=
  let c0_10 : Index := 0#32
  let c128_i32 : BitVec 32 := 128#32
  let c0_i32_1 : BitVec 32 := 0#32
  let c1_i32_3 : BitVec 32 := 1#32
  let arg11 : BitVec 32 := Scf.iv c0_i32_1 c1_i32_3 k0_t2
  let v8 : BitVec 32 := Scalar.muli c128_i32 arg11
  let v9 : BitVec 32 := v8
  let v10 : Index := Scalar.indexCast v9
  ![0, v10.toNat]
def k0_off5 (k0_t2 : Fin k0_t2_loop.trips) (c0_i32_12 : BitVec 32) (c0_i32_13 : BitVec 32) : Fin 3 → Nat :=
  let c8_i32 : BitVec 32 := 8#32
  let c0_i32_1 : BitVec 32 := 0#32
  let c1_i32_3 : BitVec 32 := 1#32
  let arg11 : BitVec 32 := Scf.iv c0_i32_1 c1_i32_3 k0_t2
  let v24 : BitVec 32 := Scalar.muli c8_i32 arg11
  let v25 : BitVec 32 := Scalar.addi v24 c0_i32_12
  let v26 : BitVec 32 := Scalar.addi v25 c0_i32_13
  let v28 : Index := Scalar.indexCast v26
  let c0_14 : Index := 0#32
  ![v28.toNat, 0, 0]
def k0_mult3 (k0_t2 : Fin k0_t2_loop.trips) : BitVec 32 :=
  let c32_i32 : BitVec 32 := 32#32
  let c8_i32 : BitVec 32 := 8#32
  let c0_i32_1 : BitVec 32 := 0#32
  let c1_i32_3 : BitVec 32 := 1#32
  let arg11 : BitVec 32 := Scf.iv c0_i32_1 c1_i32_3 k0_t2
  let v24 : BitVec 32 := Scalar.muli c8_i32 arg11
  let c0_i32_12 : BitVec 32 := 0#32
  let v25 : BitVec 32 := Scalar.addi v24 c0_i32_12
  let c0_i32_13 : BitVec 32 := 0#32
  let v26 : BitVec 32 := Scalar.addi v25 c0_i32_13
  let v40 : BitVec 32 := Scalar.muli c32_i32 v26
  v40
def k0_off6 (k0_t2 : Fin k0_t2_loop.trips) (c0_i32_12 : BitVec 32) (c0_i32_13 : BitVec 32) : Fin 2 → Nat :=
  let c32_i32 : BitVec 32 := 32#32
  let c8_i32 : BitVec 32 := 8#32
  let c0_i32_1 : BitVec 32 := 0#32
  let c1_i32_3 : BitVec 32 := 1#32
  let arg11 : BitVec 32 := Scf.iv c0_i32_1 c1_i32_3 k0_t2
  let v24 : BitVec 32 := Scalar.muli c8_i32 arg11
  let v25 : BitVec 32 := Scalar.addi v24 c0_i32_12
  let v26 : BitVec 32 := Scalar.addi v25 c0_i32_13
  let v40 : BitVec 32 := Scalar.muli c32_i32 v26
  let v41 : BitVec 32 := v40
  let v42 : Index := Scalar.indexCast v41
  let c0_16 : Index := 0#32
  ![v42.toNat, 0]
def k0_mult4 (k0_t2 : Fin k0_t2_loop.trips) : BitVec 32 :=
  let c32_i32_22 : BitVec 32 := 32#32
  let c8_i32_17 : BitVec 32 := 8#32
  let c0_i32_1 : BitVec 32 := 0#32
  let c1_i32_3 : BitVec 32 := 1#32
  let arg11 : BitVec 32 := Scf.iv c0_i32_1 c1_i32_3 k0_t2
  let v46 : BitVec 32 := Scalar.muli c8_i32_17 arg11
  let c0_i32_18 : BitVec 32 := 0#32
  let v47 : BitVec 32 := Scalar.addi v46 c0_i32_18
  let c1_i32_19 : BitVec 32 := 1#32
  let v48 : BitVec 32 := Scalar.addi v47 c1_i32_19
  let v62 : BitVec 32 := Scalar.muli c32_i32_22 v48
  v62
def k0_mult5 (k0_t2 : Fin k0_t2_loop.trips) : BitVec 32 :=
  let c32_i32_28 : BitVec 32 := 32#32
  let c8_i32_24 : BitVec 32 := 8#32
  let c0_i32_1 : BitVec 32 := 0#32
  let c1_i32_3 : BitVec 32 := 1#32
  let arg11 : BitVec 32 := Scf.iv c0_i32_1 c1_i32_3 k0_t2
  let v68 : BitVec 32 := Scalar.muli c8_i32_24 arg11
  let c2_i32 : BitVec 32 := 2#32
  let v69 : BitVec 32 := Scalar.addi v68 c2_i32
  let c0_i32_25 : BitVec 32 := 0#32
  let v70 : BitVec 32 := Scalar.addi v69 c0_i32_25
  let v84 : BitVec 32 := Scalar.muli c32_i32_28 v70
  v84
def k0_mult6 (k0_t2 : Fin k0_t2_loop.trips) : BitVec 32 :=
  let c32_i32_35 : BitVec 32 := 32#32
  let c8_i32_30 : BitVec 32 := 8#32
  let c0_i32_1 : BitVec 32 := 0#32
  let c1_i32_3 : BitVec 32 := 1#32
  let arg11 : BitVec 32 := Scf.iv c0_i32_1 c1_i32_3 k0_t2
  let v90 : BitVec 32 := Scalar.muli c8_i32_30 arg11
  let c2_i32_31 : BitVec 32 := 2#32
  let v91 : BitVec 32 := Scalar.addi v90 c2_i32_31
  let c1_i32_32 : BitVec 32 := 1#32
  let v92 : BitVec 32 := Scalar.addi v91 c1_i32_32
  let v106 : BitVec 32 := Scalar.muli c32_i32_35 v92
  v106
def k0_mult7 (k0_t2 : Fin k0_t2_loop.trips) : BitVec 32 :=
  let c32_i32_42 : BitVec 32 := 32#32
  let c8_i32_37 : BitVec 32 := 8#32
  let c0_i32_1 : BitVec 32 := 0#32
  let c1_i32_3 : BitVec 32 := 1#32
  let arg11 : BitVec 32 := Scf.iv c0_i32_1 c1_i32_3 k0_t2
  let v112 : BitVec 32 := Scalar.muli c8_i32_37 arg11
  let c4_i32_38 : BitVec 32 := 4#32
  let v113 : BitVec 32 := Scalar.addi v112 c4_i32_38
  let c0_i32_39 : BitVec 32 := 0#32
  let v114 : BitVec 32 := Scalar.addi v113 c0_i32_39
  let v128 : BitVec 32 := Scalar.muli c32_i32_42 v114
  v128
def k0_mult8 (k0_t2 : Fin k0_t2_loop.trips) : BitVec 32 :=
  let c32_i32_49 : BitVec 32 := 32#32
  let c8_i32_44 : BitVec 32 := 8#32
  let c0_i32_1 : BitVec 32 := 0#32
  let c1_i32_3 : BitVec 32 := 1#32
  let arg11 : BitVec 32 := Scf.iv c0_i32_1 c1_i32_3 k0_t2
  let v134 : BitVec 32 := Scalar.muli c8_i32_44 arg11
  let c4_i32_45 : BitVec 32 := 4#32
  let v135 : BitVec 32 := Scalar.addi v134 c4_i32_45
  let c1_i32_46 : BitVec 32 := 1#32
  let v136 : BitVec 32 := Scalar.addi v135 c1_i32_46
  let v150 : BitVec 32 := Scalar.muli c32_i32_49 v136
  v150
def k0_mult9 (k0_t2 : Fin k0_t2_loop.trips) : BitVec 32 :=
  let c32_i32_55 : BitVec 32 := 32#32
  let c8_i32_51 : BitVec 32 := 8#32
  let c0_i32_1 : BitVec 32 := 0#32
  let c1_i32_3 : BitVec 32 := 1#32
  let arg11 : BitVec 32 := Scf.iv c0_i32_1 c1_i32_3 k0_t2
  let v156 : BitVec 32 := Scalar.muli c8_i32_51 arg11
  let c6_i32 : BitVec 32 := 6#32
  let v157 : BitVec 32 := Scalar.addi v156 c6_i32
  let c0_i32_52 : BitVec 32 := 0#32
  let v158 : BitVec 32 := Scalar.addi v157 c0_i32_52
  let v172 : BitVec 32 := Scalar.muli c32_i32_55 v158
  v172
def k0_mult10 (k0_t2 : Fin k0_t2_loop.trips) : BitVec 32 :=
  let c32_i32_62 : BitVec 32 := 32#32
  let c8_i32_57 : BitVec 32 := 8#32
  let c0_i32_1 : BitVec 32 := 0#32
  let c1_i32_3 : BitVec 32 := 1#32
  let arg11 : BitVec 32 := Scf.iv c0_i32_1 c1_i32_3 k0_t2
  let v178 : BitVec 32 := Scalar.muli c8_i32_57 arg11
  let c6_i32_58 : BitVec 32 := 6#32
  let v179 : BitVec 32 := Scalar.addi v178 c6_i32_58
  let c1_i32_59 : BitVec 32 := 1#32
  let v180 : BitVec 32 := Scalar.addi v179 c1_i32_59
  let v194 : BitVec 32 := Scalar.muli c32_i32_62 v180
  v194
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x512 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x512 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S192x1x7168 : Shape := ⟨3, ![192, 1, 7168]⟩
abbrev S5120x3584 : Shape := ⟨2, ![5120, 3584]⟩
abbrev S5120x28 : Shape := ⟨2, ![5120, 28]⟩
abbrev S5120x224 : Shape := ⟨2, ![5120, 224]⟩
abbrev S5120x112x32 : Shape := ⟨3, ![5120, 112, 32]⟩
abbrev S_ : Shape := ⟨0, ![]⟩
abbrev S5120x28x8 : Shape := ⟨3, ![5120, 28, 8]⟩
abbrev S5120x28x1 : Shape := ⟨3, ![5120, 28, 1]⟩
abbrev S5120x112x2 : Shape := ⟨3, ![5120, 112, 2]⟩
abbrev S5120x112x1 : Shape := ⟨3, ![5120, 112, 1]⟩
abbrev S5120x112 : Shape := ⟨2, ![5120, 112]⟩
abbrev S192x1x112x2x32 : Shape := ⟨5, ![192, 1, 112, 2, 32]⟩
abbrev S192x1x112x1x32 : Shape := ⟨5, ![192, 1, 112, 1, 32]⟩
abbrev S192x1x112x32 : Shape := ⟨4, ![192, 1, 112, 32]⟩
abbrev S192x1x5120 : Shape := ⟨3, ![192, 1, 5120]⟩

abbrev nBuf : Space → Nat
  | .hbm => 63
  | .vmem => 4
  | .smem => 0
  | _ => 0

abbrev bufTy : (tb : Table) → Fin (tcTables nBuf tb) → BufTy
  | .hbm, ⟨0, _⟩ => ⟨S192x1x7168, .bf16⟩
  | .hbm, ⟨1, _⟩ => ⟨S5120x3584, .i8⟩
  | .hbm, ⟨2, _⟩ => ⟨S5120x28, .f16⟩
  | .hbm, ⟨3, _⟩ => ⟨S5120x28, .f16⟩
  | .hbm, ⟨4, _⟩ => ⟨S5120x224, .i8⟩
  | .hbm, ⟨5, _⟩ => ⟨S5120x224, .i8⟩
  | .hbm, ⟨6, _⟩ => ⟨S5120x112x32, .i8⟩
  | .hbm, ⟨7, _⟩ => ⟨S5120x112x32, .i32⟩
  | .hbm, ⟨8, _⟩ => ⟨S_, .i32⟩
  | .hbm, ⟨9, _⟩ => ⟨S5120x112x32, .i32⟩
  | .hbm, ⟨10, _⟩ => ⟨S5120x112x32, .i32⟩
  | .hbm, ⟨11, _⟩ => ⟨S5120x112x32, .bf16⟩
  | .hbm, ⟨12, _⟩ => ⟨S_, .i32⟩
  | .hbm, ⟨13, _⟩ => ⟨S5120x112x32, .i32⟩
  | .hbm, ⟨14, _⟩ => ⟨S5120x112x32, .i32⟩
  | .hbm, ⟨15, _⟩ => ⟨S5120x112x32, .bf16⟩
  | .hbm, ⟨16, _⟩ => ⟨S5120x28, .f32⟩
  | .hbm, ⟨17, _⟩ => ⟨S5120x28, .f32⟩
  | .hbm, ⟨18, _⟩ => ⟨S5120x28x8, .i8⟩
  | .hbm, ⟨19, _⟩ => ⟨S5120x28x8, .i32⟩
  | .hbm, ⟨20, _⟩ => ⟨S5120x28x8, .f32⟩
  | .hbm, ⟨21, _⟩ => ⟨S5120x28x8, .i8⟩
  | .hbm, ⟨22, _⟩ => ⟨S5120x28x8, .i32⟩
  | .hbm, ⟨23, _⟩ => ⟨S5120x28x8, .f32⟩
  | .hbm, ⟨24, _⟩ => ⟨S5120x28x1, .f32⟩
  | .hbm, ⟨25, _⟩ => ⟨S5120x28x8, .f32⟩
  | .hbm, ⟨26, _⟩ => ⟨S5120x28x8, .f32⟩
  | .hbm, ⟨27, _⟩ => ⟨S5120x28x8, .bf16⟩
  | .hbm, ⟨28, _⟩ => ⟨S5120x28x1, .f32⟩
  | .hbm, ⟨29, _⟩ => ⟨S5120x28x8, .f32⟩
  | .hbm, ⟨30, _⟩ => ⟨S5120x28x8, .f32⟩
  | .hbm, ⟨31, _⟩ => ⟨S5120x28x8, .bf16⟩
  | .hbm, ⟨32, _⟩ => ⟨S5120x112x2, .bf16⟩
  | .hbm, ⟨33, _⟩ => ⟨S5120x112x2, .bf16⟩
  | .hbm, ⟨34, _⟩ => ⟨S5120x112x1, .bf16⟩
  | .hbm, ⟨35, _⟩ => ⟨S5120x112, .bf16⟩
  | .hbm, ⟨36, _⟩ => ⟨S5120x112x1, .bf16⟩
  | .hbm, ⟨37, _⟩ => ⟨S5120x112x32, .bf16⟩
  | .hbm, ⟨38, _⟩ => ⟨S5120x112x32, .bf16⟩
  | .hbm, ⟨39, _⟩ => ⟨S5120x112x1, .bf16⟩
  | .hbm, ⟨40, _⟩ => ⟨S5120x112, .bf16⟩
  | .hbm, ⟨41, _⟩ => ⟨S5120x112x1, .bf16⟩
  | .hbm, ⟨42, _⟩ => ⟨S5120x112x32, .bf16⟩
  | .hbm, ⟨43, _⟩ => ⟨S5120x112x32, .bf16⟩
  | .hbm, ⟨44, _⟩ => ⟨S5120x112x1, .bf16⟩
  | .hbm, ⟨45, _⟩ => ⟨S5120x112, .bf16⟩
  | .hbm, ⟨46, _⟩ => ⟨S5120x112x1, .bf16⟩
  | .hbm, ⟨47, _⟩ => ⟨S5120x112x32, .bf16⟩
  | .hbm, ⟨48, _⟩ => ⟨S5120x112x32, .bf16⟩
  | .hbm, ⟨49, _⟩ => ⟨S5120x112x1, .bf16⟩
  | .hbm, ⟨50, _⟩ => ⟨S5120x112, .bf16⟩
  | .hbm, ⟨51, _⟩ => ⟨S5120x112x1, .bf16⟩
  | .hbm, ⟨52, _⟩ => ⟨S5120x112x32, .bf16⟩
  | .hbm, ⟨53, _⟩ => ⟨S5120x112x32, .bf16⟩
  | .hbm, ⟨54, _⟩ => ⟨S192x1x112x2x32, .bf16⟩
  | .hbm, ⟨55, _⟩ => ⟨S192x1x112x1x32, .bf16⟩
  | .hbm, ⟨56, _⟩ => ⟨S192x1x112x32, .bf16⟩
  | .hbm, ⟨57, _⟩ => ⟨S192x1x5120, .f32⟩
  | .hbm, ⟨58, _⟩ => ⟨S192x1x112x1x32, .bf16⟩
  | .hbm, ⟨59, _⟩ => ⟨S192x1x112x32, .bf16⟩
  | .hbm, ⟨60, _⟩ => ⟨S192x1x5120, .f32⟩
  | .hbm, ⟨61, _⟩ => ⟨S192x1x5120, .f32⟩
  | .hbm, ⟨62, _⟩ => ⟨S192x1x5120, .bf16⟩
  | .local _ .vmem, ⟨0, _⟩ => ⟨S5120x28, .f16⟩
  | .local _ .vmem, ⟨1, _⟩ => ⟨S5120x28, .f16⟩
  | .local _ .vmem, ⟨2, _⟩ => ⟨S5120x28, .f32⟩
  | .local _ .vmem, ⟨3, _⟩ => ⟨S5120x28, .f32⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5120x28 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x28 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Nibble.lean ====
/-
  THE NIBBLES. The kernel splits each byte of a weight word into its two 4-bit numbers by reading four bytes of a column
  as one 32-bit word, masking that word with 0x0F0F0F0F (after a shift right by four, for the high numbers), and reading
  the word as four bytes again. Here: what comes out at a byte is that byte's own low nibble `b & 15`, respectively its
  own high nibble `b >> 4`, whatever its three neighbours are.
-/
module

public import proofs.«01_k».proof.Proof.Gen.KernelIdeal.Skeleton
public import Idealize.ShloMosaic.Lib.BitcastFour
public import Idealize.ShloMosaic.Lib.Pointwise

@[expose] public section

noncomputable section

namespace Cert.KernelIdeal.Hand

open Idealize.ShloMosaic Idealize.ShloMosaic.TcCoe
open Cert.KernelIdeal Cert.KernelIdeal.Gen

/-- Reading bytes as words and the words as bytes, with a function of the words in between: bit `q` of byte `r` of a
    column is bit `8 (r % 4) + q` of the word that the function makes of word `r / 4`. -/
theorem bytes_of_words_getLsbD (y : S32x512.Idx → BitVec 32) (h : S32x512.Bitcasts 32 S128x512 8) (r : Fin 128) (c : Fin 512)
    (q : Nat) (hq : q < 8) :
    (bitcast S128x512 8 y h (ix2 r c)).getLsbD q
      = (y (ix2 (⟨r.val / 4, by omega⟩ : Fin 32) c)).getLsbD (8 * (r.val % 4) + q) := by
  have hr : S128x512.row (ix2 r c) = r.val := rfl
  rw [bitcast_getLsbD y h _ q hq (by decide)]
  have e1 : (S128x512.row (ix2 r c) * 8 + q) / 32 = r.val / 4 := by rw [hr]; omega
  have e2 : (S128x512.row (ix2 r c) * 8 + q) % 32 = 8 * (r.val % 4) + q := by rw [hr]; omega
  rw [e2]
  congr 2
  funext a
  match a with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The other way: bit `8 (r % 4) + q` of word `r / 4` of a column of bytes is bit `q` of byte `r`. -/
theorem words_of_bytes_getLsbD (x : S128x512.Idx → BitVec 8) (h : S128x512.Bitcasts 8 S32x512 32) (r : Fin 128) (c : Fin 512)
    (q : Nat) (hq : q < 8) :
    (bitcast S32x512 32 x h (ix2 (⟨r.val / 4, by omega⟩ : Fin 32) c)).getLsbD (8 * (r.val % 4) + q)
      = (x (ix2 r c)).getLsbD q := by
  have := bitcast_8_32_getLsbD_ix2 x h (⟨r.val / 4, by omega⟩ : Fin 32) c (8 * (r.val % 4) + q) (by omega) r
    (by show r.val = 4 * (r.val / 4) + (8 * (r.val % 4) + q) / 8; omega)
  rw [← ix2_eq_valueIdx, ← ix2_eq_valueIdx, show (8 * (r.val % 4) + q) % 8 = q by omega] at this
  exact this

/-- Bit `8 m + q` of the mask 0x0F0F0F0F is set for the four low bits of every byte. -/
theorem mask_getLsbD (m q : Nat) (hm : m < 4) (hq : q < 8) :
    (252645135#32).getLsbD (8 * m + q) = (15#8).getLsbD q := by
  interval_cases m <;> interval_cases q <;> rfl

/-- The low nibbles. -/
theorem lowNibble (x : S128x512.Idx → BitVec 8) (h : S128x512.Bitcasts 8 S32x512 32) (h' : S32x512.Bitcasts 32 S128x512 8)
    (r : Fin 128) (c : Fin 512) :
    bitcast S128x512 8 (andi (bitcast S32x512 32 x h) (broadcast S32x512 252645135#32)) h' (ix2 r c)
      = x (ix2 r c) &&& 15#8 := by
  apply BitVec.eq_of_getLsbD_eq
  intro q hq
  rw [bytes_of_words_getLsbD _ h' r c q hq]
  show (bitcast S32x512 32 x h _ &&& 252645135#32).getLsbD _ = _
  rw [BitVec.getLsbD_and, BitVec.getLsbD_and, words_of_bytes_getLsbD x h r c q hq, mask_getLsbD _ _ (by omega) hq]

/-- The high nibbles: the bits that the shift brings in from the next byte are the ones that the mask clears. -/
theorem highNibble (x : S128x512.Idx → BitVec 8) (h : S128x512.Bitcasts 8 S32x512 32) (h' : S32x512.Bitcasts 32 S128x512 8)
    (r : Fin 128) (c : Fin 512) :
    bitcast S128x512 8 (andi (shrui (bitcast S32x512 32 x h) (broadcast S32x512 4#32)) (broadcast S32x512 252645135#32)) h'
        (ix2 r c)
      = x (ix2 r c) >>> 4 := by
  apply BitVec.eq_of_getLsbD_eq
  intro q hq
  rw [bytes_of_words_getLsbD _ h' r c q hq]
  have hs : shrui (bitcast S32x512 32 x h) (broadcast S32x512 4#32) (ix2 (⟨r.val / 4, by omega⟩ : Fin 32) c)
      = bitcast S32x512 32 x h (ix2 (⟨r.val / 4, by omega⟩ : Fin 32) c) >>> 4 := by
    rfl
  show (shrui (bitcast S32x512 32 x h) (broadcast S32x512 4#32) _ &&& 252645135#32).getLsbD _ = _
  rw [hs, BitVec.getLsbD_and, mask_getLsbD _ _ (by omega) hq, BitVec.getLsbD_ushiftRight, BitVec.getLsbD_ushiftRight]
  by_cases h4 : q < 4
  · rw [show 4 + (8 * (r.val % 4) + q) = 8 * (r.val % 4) + (4 + q) by omega, words_of_bytes_getLsbD x h r c (4 + q) (by omega)]
    have : (15#8).getLsbD q = true := by interval_cases q <;> rfl
    rw [this, Bool.and_true]
  · have : (15#8).getLsbD q = false := by interval_cases q <;> first | rfl | omega
    rw [this, Bool.and_false, BitVec.getLsbD_of_ge _ _ (by omega)]

variable {F : FTy → Type} [FloatOps F]

/-- The low nibbles of a 512 × 128 byte block, transposed, as numbers. -/
theorem pay6_apply (v : Vec F S512x128 .i8) (r : Fin 128) (c : Fin 512) :
    k0_pay6 v (ix2 r c) = FloatOps.uitofp .bf16 ((v (ix2 c r) : BitVec 8) &&& 15#8) := by
  unfold k0_pay6 k0_pay5
  show FloatOps.uitofp .bf16 (bitcast S128x512 8 _ _ _) = _
  rw [lowNibble]
  pointwise

/-- The high nibbles of a 512 × 128 byte block, transposed, as numbers. -/
theorem pay7_apply (v : Vec F S512x128 .i8) (r : Fin 128) (c : Fin 512) :
    k0_pay7 v (ix2 r c) = FloatOps.uitofp .bf16 ((v (ix2 c r) : BitVec 8) >>> 4) := by
  unfold k0_pay7 k0_pay5
  show FloatOps.uitofp .bf16 (bitcast S128x512 8 _ _ _) = _
  rw [highNibble]
  pointwise

end Cert.KernelIdeal.Hand

end
-- ==== Proof.Tile.lean ====
/-
  ONE TILE OF THE KERNEL'S PURE ARITHMETIC, AT AN INDEX. The kernel writes two kinds of tile into its scratch buffers: a
  pack of eight rows of scales (or offsets), each row stored twice, and a tile of 32 weight rows, nibble times scale minus
  offset, for which one stored pair of rows is spread over the 32 rows again. Here each tile's value is read at an index.
-/
module

public import proofs.«01_k».proof.Proof.Nibble
public import Idealize.ShloMosaic.Lib.Pipeline.Value

@[expose] public section

noncomputable section

namespace Cert.KernelIdeal.Hand

open Idealize.ShloMosaic Idealize.ShloMosaic.TcCoe
open Cert.KernelIdeal Cert.KernelIdeal.Gen

variable {F : FTy → Type} [FloatOps F]

/-- The product of a super-block's scale `d` and a sub-block's 8-bit scale `b`, rounded to bf16. -/
def scaled (d : Elt F .f16) (b : BitVec 8) : Elt F .bf16 :=
  FloatOps.truncf .bf16 bitsLt_bf16_f32 (FloatOps.mulf (FloatOps.extf .f32 bitsLt_f16_f32 d) (FloatOps.sitofp .f32 (b.setWidth 32)))

/-- Eight rows of scales as stored: both halves of row `r` hold the same product. -/
theorem pay1_apply (v11 : Vec F S8x512 .i8) (v16 : Vec F S1x512 .f16) (r : Fin 8) (h : Fin 2) (c : Fin 512) :
    k0_pay1 v11 v16 (ix3 r h c) = scaled (v16 (ix2 (0 : Fin 1) c)) (v11 (ix2 r c)) := by
  unfold k0_pay1 scaled
  fin_cases h <;> pointwise

/-- Eight rows of offsets: the same arithmetic as the scales'. -/
theorem pay2_eq_pay1 : @k0_pay2 F _ = k0_pay1 := rfl

/-- A row stored twice, spread over 32 rows: every row is that row. -/
theorem spread_apply (v : Fin 512 → Elt F .bf16) (lo hi : FVec F S8x512 .bf16) (hlo : ∀ r c, lo (ix2 r c) = v c)
    (hhi : ∀ r c, hi (ix2 r c) = v c) (h : S16x512.Bitcasts 16 S8x512 32) (i : Fin 32) (c : Fin 512) :
    concatenate S32x512 0 [⟨S16x512, interleaveRows S16x512 lo hi h⟩, ⟨S16x512, interleaveRows S16x512 lo hi h⟩]
      concatenates_S16x512_S16x512_S32x512_d0 (ix2 i c) = v c := by
  have hx : ∀ r c, interleaveRows S16x512 lo hi h (ix2 r c) = v c := by
    intro r c
    rw [interleaveRows_apply]
    split
    · refine (congrArg lo (funext fun b => ?_)).trans (hlo (⟨r.val / 2, by omega⟩ : Fin 8) c)
      match b with
      | ⟨0, _⟩ => rfl
      | ⟨1, _⟩ => rfl
    · refine (congrArg hi (funext fun b => ?_)).trans (hhi (⟨r.val / 2, by omega⟩ : Fin 8) c)
      match b with
      | ⟨0, _⟩ => rfl
      | ⟨1, _⟩ => rfl
  refine (concatenate_replicate_apply (t := S32x512) (s₁ := S16x512) (0 : Fin 2) 2 (interleaveRows S16x512 lo hi h) _ rfl (ix2 i c)
    (ix2 (⟨i.val % 16, by omega⟩ : Fin 16) c) rfl ?_).trans (hx _ c)
  intro b hb
  match b with
  | ⟨0, _⟩ => exact absurd rfl hb
  | ⟨1, _⟩ => rfl

/-- Eight copies of one half of a stored row. -/
theorem eight_apply (v : Fin 512 → Elt F .bf16) (raw : Vec F S1x2x512 .bf16) (p : Fin 2)
    (hraw : ∀ c, raw (ix3 (0 : Fin 1) p c) = v c) (h : S1x2x512.Bitcasts 16 S1x1x512 32) (x : FVec F S1x512 .bf16)
    (hx : x = shapeCast S1x512 (rowsOfParity p S1x1x512 raw h) shapeCasts_S1x1x512_S1x512) (r : Fin 8) (c : Fin 512) :
    concatenate S8x512 0 [⟨S1x512, x⟩, ⟨S1x512, x⟩, ⟨S1x512, x⟩, ⟨S1x512, x⟩, ⟨S1x512, x⟩, ⟨S1x512, x⟩, ⟨S1x512, x⟩, ⟨S1x512, x⟩]
      concatenates_S1x512_S1x512_S1x512_S1x512_S1x512_S1x512_S1x512_S1x512_S8x512_d0 (ix2 r c) = v c := by
  have hx' : x (ix2 (0 : Fin 1) c) = v c := by
    rw [hx, ← hraw c]
    fin_cases p <;> pointwise
  refine (concatenate_replicate_apply (t := S8x512) (s₁ := S1x512) (0 : Fin 2) 8 x _ rfl (ix2 r c) (ix2 (0 : Fin 1) c) (Nat.mod_one _).symm ?_).trans hx'
  intro b hb
  match b with
  | ⟨0, _⟩ => exact absurd rfl hb
  | ⟨1, _⟩ => rfl

/-- A stored row, both halves equal to `v`, spread over 32 rows. -/
theorem spreadRow_apply (v : Fin 512 → Elt F .bf16) (raw : Vec F S1x2x512 .bf16) (hraw : ∀ p c, raw (ix3 (0 : Fin 1) p c) = v c)
    (i : Fin 32) (c : Fin 512) : k0_pay11 raw (ix2 i c) = v c :=
  spread_apply v _ _ (eight_apply v raw 0 (hraw 0) _ _ rfl) (eight_apply v raw 1 (hraw 1) _ _ rfl) _ i c

/-- The tile: 32 rows of nibbles from row `o` on, times the scale row, minus the offset row. -/
def tile (o : Nat) (ho : o + 32 ≤ 128) (x : FVec F S128x512 .bf16) (s t : Vec F S1x2x512 .bf16) : FVec F S32x512 .bf16 :=
  fun j => FloatOps.subf (FloatOps.mulf (x (ix2 (⟨o + (j 0).val, by have := (j 0).isLt; have : (j 0).val < 32 := this; omega⟩ : Fin 128) (j 1)))
    (k0_pay11 s j)) (k0_pay11 t j)

/-- What a tile is at an index, its two rows being stored rows. -/
theorem tile_apply (o : Nat) (ho : o + 32 ≤ 128) (x : FVec F S128x512 .bf16) (s t : Vec F S1x2x512 .bf16) (sv tv : Fin 512 → Elt F .bf16)
    (hs : ∀ p c, s (ix3 (0 : Fin 1) p c) = sv c) (ht : ∀ p c, t (ix3 (0 : Fin 1) p c) = tv c) (i : Fin 32) (c : Fin 512) :
    tile o ho x s t (ix2 i c) = FloatOps.subf (FloatOps.mulf (x (ix2 (⟨o + i.val, by omega⟩ : Fin 128) c)) (sv c)) (tv c) := by
  unfold tile
  rw [spreadRow_apply sv s hs, spreadRow_apply tv t ht]
  rfl

/-- A slice of 32 rows from row `o` on, at an index. -/
theorem slice_apply (o : Nat) (ho : o + 32 ≤ 128) (x : FVec F S128x512 .bf16) (h : S128x512.Slices ![o, 0] S32x512) (j : S32x512.Idx) :
    extractStridedSlice S32x512 ![o, 0] x h j
      = x (ix2 (⟨o + (j 0).val, by have := (j 0).isLt; have : (j 0).val < 32 := this; omega⟩ : Fin 128) (j 1)) := by
  refine congrArg x (funext fun a => ?_)
  match a with
  | ⟨0, _⟩ => rfl
  | ⟨1, _⟩ => exact Fin.ext (Nat.zero_add _)

/-- A reshape to the same shape changes nothing. -/
theorem recast (x : FVec F S32x512 .bf16) : shapeCast S32x512 x shapeCasts_S32x512_S32x512 = x := shapeCast_self _ _

/-- The kernel's own spelling of a tile. -/
theorem tile_of (o : Nat) (ho : o + 32 ≤ 128) (x : FVec F S128x512 .bf16) (s t : Vec F S1x2x512 .bf16)
    (h : S128x512.Slices ![o, 0] S32x512) :
    shapeCast S32x512 (subf (mulf (extractStridedSlice S32x512 ![o, 0] x h) (k0_pay11 s)) (k0_pay11 t))
      shapeCasts_S32x512_S32x512 = tile o ho x s t := by
  rw [recast]
  funext j
  unfold tile
  rw [← slice_apply o ho x h j]
  rfl

/-! The eight tiles of one step, in the order in which they are written. -/

theorem pay8_eq (v : Vec F S512x128 .i8) (s t : Vec F S1x2x512 .bf16) :
    k0_pay8 v s t = tile 0 (by decide) (k0_pay6 v) s t :=
  tile_of 0 (by decide) (k0_pay6 v) s t slices_S128x512_o0_0_S32x512

theorem pay9_eq (x : FVec F S128x512 .bf16) (s t : Vec F S1x2x512 .bf16) :
    k0_pay9 x s t = tile 0 (by decide) x s t :=
  tile_of 0 (by decide) x s t slices_S128x512_o0_0_S32x512

theorem pay12_eq (x : FVec F S128x512 .bf16) (s t : Vec F S1x2x512 .bf16) :
    k0_pay12 (k0_pay10 x s) (k0_pay11 t) = tile 32 (by decide) x s t :=
  tile_of 32 (by decide) x s t slices_S128x512_o32_0_S32x512

theorem pay13_eq (x : FVec F S128x512 .bf16) (s t : Vec F S1x2x512 .bf16) :
    k0_pay13 x s t = tile 32 (by decide) x s t :=
  tile_of 32 (by decide) x s t slices_S128x512_o32_0_S32x512

theorem pay17_eq (x : FVec F S128x512 .bf16) (s t : Vec F S1x2x512 .bf16) :
    k0_pay17 (k0_pay14 x) (k0_pay15 s) (k0_pay16 s) t = tile 64 (by decide) x s t :=
  tile_of 64 (by decide) x s t slices_S128x512_o64_0_S32x512

theorem pay18_eq (x : FVec F S128x512 .bf16) (s t : Vec F S1x2x512 .bf16) :
    k0_pay18 x s t = tile 64 (by decide) x s t :=
  tile_of 64 (by decide) x s t slices_S128x512_o64_0_S32x512

theorem pay19_eq (x : FVec F S128x512 .bf16) (s t : Vec F S1x2x512 .bf16) :
    k0_pay19 x s t = tile 96 (by decide) x s t :=
  tile_of 96 (by decide) x s t slices_S128x512_o96_0_S32x512

theorem pay3_eq (x : FVec F S128x512 .bf16) (s t : Vec F S1x2x512 .bf16) :
    k0_pay3 (k0_pay20 x s) (k0_pay21 t) = tile 96 (by decide) x s t :=
  tile_of 96 (by decide) x s t slices_S128x512_o96_0_S32x512

end Cert.KernelIdeal.Hand

end
-- ==== Proof.Scales.lean ====
/-
  WHAT THE TWO LOOPS LEAVE IN THE SCRATCH BUFFERS. The first loop writes eight rows per trip into the buffer of scales and
  the buffer of offsets; the second writes 256 weight rows per trip, in eight tiles of 32. No trip reads what it or another
  trip of the same loop has written, and together the trips write every row once; so after each loop the buffer holds one
  function of what was read, whatever it held before.
-/
module

public import proofs.«01_k».proof.Proof.Tile
public import proofs.«01_k».proof.Proof.Gen.KernelIdeal.Loops
public import Idealize.ShloMosaic.Lib.WritesUnit

@[expose] public section

noncomputable section

namespace Cert.KernelIdeal.Hand

open Idealize.ShloMosaic Idealize.ShloMosaic.TcCoe Idealize.SL.Sem
open Cert.KernelIdeal Cert.KernelIdeal.Gen

/-- A list of stores that all write the values of one function leaves that function wherever one of them writes. -/
theorem read_writes_of_agree {sig : RefSig} {κ : Kind} {sp : Space} {s : Shape} {e : EltTy} {Val : EltTy → Type}
    (v : View sig κ sp s e) (f : v.ty.Contents Val) (G : s.Idx → Val e) (y : s.Idx) :
    ∀ L : List (View.Piece Val s e), (∀ p ∈ L, ∀ x, p.2 x = G (p.1.emb x)) → (∃ p ∈ L, y ∈ p.1.set) →
      v.read Val (v.writes Val f L) y = G y
  | [], _, h => by obtain ⟨_, hm, _⟩ := h; exact absurd hm List.not_mem_nil
  | p :: L, hG, h => by
    by_cases hy : y ∈ p.1.set
    · obtain ⟨r, w⟩ := p
      obtain ⟨x, rfl⟩ : ∃ x, r.emb x = y := r.exists_idx_of_mem hy
      rw [View.read_writes_cons_emb]
      exact hG _ List.mem_cons_self x
    · have hy' : y ∉ Finset.univ.map p.1.emb := by rwa [Rect.map_emb_univ]
      obtain ⟨q, hq, hyq⟩ := h
      rcases List.mem_cons.mp hq with rfl | hq
      · exact absurd hyq hy
      · rw [View.writes_cons, View.read_slice_write_of_not_mem p.1 _ _ _ hy']
        exact read_writes_of_agree v f G y L (fun p hp => hG p (List.mem_cons_of_mem _ hp)) ⟨q, hq, hyq⟩

/-- One more trip: its piece joins those of the trips before. -/
theorem mem_step {α : Type} {n : Nat} (P : Fin n → α) (k : Fin n) (p : α) :
    (p = P k ∨ ∃ j : Fin n, j.val < k.val ∧ p = P j) ↔ ∃ j : Fin n, j.val < k.val + 1 ∧ p = P j := by
  constructor
  · rintro (h | ⟨j, hj, h⟩)
    · exact ⟨k, by omega, h⟩
    · exact ⟨j, by omega, h⟩
  · rintro ⟨j, hj, h⟩
    by_cases e : j = k
    · exact .inl (e ▸ h)
    · exact .inr ⟨j, by have : j.val ≠ k.val := fun h => e (Fin.ext h); omega, h⟩

variable {F : FTy → Type} [FloatOps F]

/-! ## The first loop: scales and offsets -/

theorem trips1 : k0_t1_loop.trips = 28 := by decide +kernel
theorem trips2 : k0_t2_loop.trips = 28 := by decide +kernel

/-- The stored rows: row `r` is the 8-bit scale of sub-block `r` times the scale of its super-block `r / 8`, twice. -/
def scaleRows (d : Vec F S28x512 .f16) (b : Vec F S224x512 .i8) : Vec F S224x2x512 .bf16 := fun j =>
  scaled (d (ix2 (⟨(j 0).val / 8, by have h : (j 0).val < 224 := (j 0).isLt; omega⟩ : Fin 28) (j 2))) (b (ix2 (j 0) (j 2)))

/-- Trip `k` stores rows `8 k … 8 k + 7`, from the 8-bit scales `b` and the super-block scales `d`. -/
def scalePiece (d : Vec F S28x512 .f16) (b : Vec F S224x512 .i8) (k : Fin k0_t1_loop.trips) : View.Piece (Elt F) S224x2x512 .bf16 :=
  ⟨Rect.unit (s := S224x2x512) (k0_off3 k) S8x2x512.size (k0_off3_inb k),
    k0_pay1 (fun j => b ((Rect.unit (s := S224x512) (k0_off1 k) S8x512.size (k0_off1_inb k)).toLoadRect.idx j))
      (fun j => d ((Rect.unit (s := S28x512) (k0_off2 k) S1x512.size (k0_off2_inb k)).toLoadRect.idx j))⟩

theorem scalePiece_agrees (d : Vec F S28x512 .f16) (b : Vec F S224x512 .i8) (k : Fin k0_t1_loop.trips)
    (x : (scalePiece d b k).1.shape.Idx) : (scalePiece d b k).2 x = scaleRows d b ((scalePiece d b k).1.emb x) := by
  have hk : k.val < 28 := trips1 ▸ k.isLt
  obtain ⟨r, h, c, rfl⟩ : ∃ (r : Fin 8) (h : Fin 2) (c : Fin 512), x = ix3 r h c := ⟨x 0, x 1, x 2, eq_ix3 x⟩
  refine (pay1_apply _ _ r h c).trans ?_
  unfold scaleRows
  have e3 := k0_off3_eq k
  have h0 : (((scalePiece d b k).1.emb (ix3 r h c)) (0 : Fin 3)).val = 8 * k.val + r.val := by
    show k0_off3 k 0 + 1 * r.val = _
    rw [e3, Nat.one_mul]; rfl
  have h2 : (((scalePiece d b k).1.emb (ix3 r h c)) (2 : Fin 3)).val = c.val := by
    show k0_off3 k 2 + 1 * c.val = _
    rw [e3, Nat.one_mul]; exact Nat.zero_add _
  refine congrArg₂ scaled (congrArg d (funext fun a => Fin.ext ?_)) (congrArg b (funext fun a => Fin.ext ?_))
  · match a with
    | ⟨0, _⟩ =>
      show k0_off2 k 0 + 1 * 0 = (((scalePiece d b k).1.emb (ix3 r h c)) (0 : Fin 3)).val / 8
      rw [h0, k0_off2_eq k]; show k.val + 1 * 0 = _; omega
    | ⟨1, _⟩ =>
      show k0_off2 k 1 + 1 * c.val = (((scalePiece d b k).1.emb (ix3 r h c)) (2 : Fin 3)).val
      rw [h2, k0_off2_eq k]; show 0 + 1 * c.val = _; omega
  · match a with
    | ⟨0, _⟩ =>
      show k0_off1 k 0 + 1 * r.val = (((scalePiece d b k).1.emb (ix3 r h c)) (0 : Fin 3)).val
      rw [h0, k0_off1_eq k]; show 8 * k.val + 1 * r.val = _; omega
    | ⟨1, _⟩ =>
      show k0_off1 k 1 + 1 * c.val = (((scalePiece d b k).1.emb (ix3 r h c)) (2 : Fin 3)).val
      rw [h2, k0_off1_eq k]; show 0 + 1 * c.val = _; omega

/-- Every place of the buffer is in the piece of the trip `r / 8` of its row `r`. -/
theorem scalePiece_covers (d : Vec F S28x512 .f16) (b : Vec F S224x512 .i8) (y : S224x2x512.Idx) :
    y ∈ (scalePiece d b ⟨(y 0).val / 8, by rw [trips1]; have h : (y 0).val < 224 := (y 0).isLt; omega⟩).1.set := by
  have h0 : (y 0).val < 224 := (y 0).isLt
  have h1 : (y 1).val < 2 := (y 1).isLt
  have h2 : (y 2).val < 512 := (y 2).isLt
  unfold scalePiece
  rw [Rect.mem_set_unit]
  simp only [k0_off3_eq]
  intro a
  match a with
  | ⟨0, _⟩ => show 8 * ((y 0).val / 8) ≤ (y 0).val ∧ (y 0).val < 8 * ((y 0).val / 8) + 8; omega
  | ⟨1, _⟩ => show 0 ≤ (y 1).val ∧ (y 1).val < 0 + 2; omega
  | ⟨2, _⟩ => show 0 ≤ (y 2).val ∧ (y 2).val < 0 + 512; omega

section Loop1

variable (𝒱 : Variants) (c : Dev nD) (bd : Option 𝒱.V) (i : grid0.Coords) (arg1 : Memref sig .tc .vmem S192x7168 .bf16)
   (harg1 : arg1.IsWhole) (arg2 : Memref sig .tc .vmem S512x3584 .i8) (harg2 : arg2.IsWhole)
   (arg3 : Memref sig .tc .vmem S28x512 .f16) (harg3 : arg3.IsWhole) (arg4 : Memref sig .tc .vmem S28x512 .f16)
   (harg4 : arg4.IsWhole) (arg5 : Memref sig .tc .vmem S224x512 .i8) (harg5 : arg5.IsWhole)
   (arg6 : Memref sig .tc .vmem S224x512 .i8) (harg6 : arg6.IsWhole) (arg7 : Memref sig .tc .vmem S192x512 .bf16)
   (harg7 : arg7.IsWhole) (arg8 : Memref sig .tc .vmem S224x2x512 .bf16) (harg8 : arg8.IsWhole)
   (arg9 : Memref sig .tc .vmem S224x2x512 .bf16) (harg9 : arg9.IsWhole) (arg10 : Memref sig .tc .vmem S7168x512 .bf16)
   (harg10 : arg10.IsWhole)
variable (X3 : BufTy.Contents (Elt F) arg3.view.ty) (X4 : BufTy.Contents (Elt F) arg4.view.ty)
  (X5 : BufTy.Contents (Elt F) arg5.view.ty) (X6 : BufTy.Contents (Elt F) arg6.view.ty)

/-- One trip of the first loop: one piece of each buffer. -/
theorem trip1_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 X3 X4 X5 X6 k
      = ([scalePiece (arg3.view.read (Elt F) X3) (arg5.view.read (Elt F) X5) k],
         [scalePiece (arg4.view.read (Elt F) X4) (arg6.view.read (Elt F) X6) k]) := by
  unfold tripL_k0_t1 trip_k0_t1
  rfl

/-- The pieces of the trips before `k`. -/
theorem mem_pb1 : ∀ k : Nat, k ≤ k0_t1_loop.trips →
    (∀ p, p ∈ (pb_k0_t1 (F := F) 𝒱 c bd i arg1 harg1 arg2 harg2 arg3 harg3 arg4 harg4 arg5 harg5 arg6 harg6 arg7 harg7 arg8 harg8 arg9 harg9 arg10 harg10 X3 X4 X5 X6 k).1 ↔
      ∃ j : Fin k0_t1_loop.trips, j.val < k ∧ p = scalePiece (arg3.view.read (Elt F) X3) (arg5.view.read (Elt F) X5) j) ∧
    (∀ p, p ∈ (pb_k0_t1 (F := F) 𝒱 c bd i arg1 harg1 arg2 harg2 arg3 harg3 arg4 harg4 arg5 harg5 arg6 harg6 arg7 harg7 arg8 harg8 arg9 harg9 arg10 harg10 X3 X4 X5 X6 k).2 ↔
      ∃ j : Fin k0_t1_loop.trips, j.val < k ∧ p = scalePiece (arg4.view.read (Elt F) X4) (arg6.view.read (Elt F) X6) j)
  | 0, _ => by
    constructor <;>
    · intro p
      constructor
      · intro h; exact absurd h List.not_mem_nil
      · rintro ⟨_, h, _⟩; exact absurd h (Nat.not_lt_zero _)
  | k + 1, hk => by
    have ih := mem_pb1 k (by omega)
    have hs := pb_k0_t1_succ (F := F) 𝒱 c bd i arg1 harg1 arg2 harg2 arg3 harg3 arg4 harg4 arg5 harg5 arg6 harg6 arg7 harg7 arg8 harg8 arg9 harg9 arg10 harg10 X3 X4 X5 X6 ⟨k, hk⟩
    rw [trip1_eq] at hs
    change pb_k0_t1 (F := F) 𝒱 c bd i arg1 harg1 arg2 harg2 arg3 harg3 arg4 harg4 arg5 harg5 arg6 harg6 arg7 harg7 arg8 harg8 arg9 harg9 arg10 harg10 X3 X4 X5 X6 (k + 1) = _ at hs
    rw [hs]
    constructor
    · intro p
      refine List.mem_cons.trans ((or_congr_right (ih.1 p)).trans ?_)
      exact mem_step _ ⟨k, hk⟩ p
    · intro p
      refine List.mem_cons.trans ((or_congr_right (ih.2 p)).trans ?_)
      exact mem_step _ ⟨k, hk⟩ p

/-- After the first loop the two buffers hold the scales and the offsets. -/
theorem read_scales (G8 : BufTy.Contents (Elt F) arg8.view.ty) (G9 : BufTy.Contents (Elt F) arg9.view.ty) :
    arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 X3 X4 X5 X6 k0_t1_loop.trips).1)
        = scaleRows (arg3.view.read (Elt F) X3) (arg5.view.read (Elt F) X5) ∧
    arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 X3 X4 X5 X6 k0_t1_loop.trips).2)
        = scaleRows (arg4.view.read (Elt F) X4) (arg6.view.read (Elt F) X6) := by
  have hm := mem_pb1 𝒱 c bd i arg1 harg1 arg2 harg2 arg3 harg3 arg4 harg4 arg5 harg5 arg6 harg6 arg7 harg7 arg8 harg8 arg9 harg9 arg10 harg10 X3 X4 X5 X6 k0_t1_loop.trips le_rfl
  constructor
  · funext y
    refine read_writes_of_agree _ _ _ y _ (fun p hp x => ?_) ⟨_, (hm.1 _).mpr ⟨_, Fin.isLt _, rfl⟩, scalePiece_covers _ _ y⟩
    obtain ⟨j, _, rfl⟩ := (hm.1 p).mp hp
    exact scalePiece_agrees _ _ j x
  · funext y
    refine read_writes_of_agree _ _ _ y _ (fun p hp x => ?_) ⟨_, (hm.2 _).mpr ⟨_, Fin.isLt _, rfl⟩, scalePiece_covers _ _ y⟩
    obtain ⟨j, _, rfl⟩ := (hm.2 p).mp hp
    exact scalePiece_agrees _ _ j x

end Loop1

end Cert.KernelIdeal.Hand

end
-- ==== Proof.Weights.lean ====
/-
  WHAT THE SECOND LOOP LEAVES: the whole weight matrix of the block, dequantized. Weight row `64 p + 32 h + i` of column
  `c` is the low (`h = 0`) or high (`h = 1`) nibble of byte `32 p + i` of that column's weight words, times the scale of
  sub-block `2 p + h`, minus its offset.
-/
module

public import proofs.«01_k».proof.Proof.Scales

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

/-- The low (`h = 0`) or high nibble of a byte, as a number. -/
def nibble (h : Nat) (b : BitVec 8) : Elt F .bf16 := FloatOps.uitofp .bf16 (if h = 0 then b &&& 15#8 else b >>> 4)

/-- The weight matrix of a block from its bytes and the rows of scales and offsets. -/
def weights (q : Vec F S512x3584 .i8) (s t : Fin 224 → Fin 512 → Elt F .bf16) : Vec F S7168x512 .bf16 := fun j =>
  have h : (j 0).val < 7168 := (j 0).isLt
  FloatOps.subf (FloatOps.mulf
      (nibble ((j 0).val / 32 % 2) (q (ix2 (j 1) (⟨32 * ((j 0).val / 64) + (j 0).val % 32, by omega⟩ : Fin 3584))))
      (s ⟨(j 0).val / 32, by omega⟩ (j 1)))
    (t ⟨(j 0).val / 32, by omega⟩ (j 1))

/-- What trip `k` loads of the weight bytes. -/
def tripBytes (q : Vec F S512x3584 .i8) (k : Fin k0_t2_loop.trips) : Vec F S512x128 .i8 := fun j =>
  q ((Rect.unit (s := S512x3584) (k0_off4 k) S512x128.size (k0_off4_inb k)).toLoadRect.idx j)

/-- The stored row that trip `k` loads for its tile `g`, `h`. -/
def tripRow (b : Vec F S224x2x512 .bf16) (k : Fin k0_t2_loop.trips) (g : Fin 4) (h : Fin 2) : Vec F S1x2x512 .bf16 := fun j =>
  b ((Rect.unit (s := S224x2x512) (k0_off5 k (BitVec.ofNat 32 (2 * g.val)) (BitVec.ofNat 32 h.val)) S1x2x512.size
    (k0_off5_inb k g h)).toLoadRect.idx j)

/-- The nibbles of a trip's bytes: the low ones for `h = 0`, the high ones for `h = 1`. -/
def tripNibbles (q : Vec F S512x3584 .i8) (k : Fin k0_t2_loop.trips) (h : Fin 2) : FVec F S128x512 .bf16 :=
  if h.val = 0 then k0_pay6 (tripBytes q k) else k0_pay7 (tripBytes q k)

/-- Tile `g`, `h` of trip `k`: the 32 weight rows from `256 k + 64 g + 32 h` on. -/
def weightPiece (q : Vec F S512x3584 .i8) (s t : Vec F S224x2x512 .bf16) (k : Fin k0_t2_loop.trips) (g : Fin 4) (h : Fin 2) :
    View.Piece (Elt F) S7168x512 .bf16 :=
  ⟨Rect.unit (s := S7168x512) (k0_off6 k (BitVec.ofNat 32 (2 * g.val)) (BitVec.ofNat 32 h.val)) S32x512.size (k0_off6_inb k g h),
    tile (32 * g.val) (by omega) (tripNibbles q k h) (tripRow s k g h) (tripRow t k g h)⟩

theorem tripBytes_apply (q : Vec F S512x3584 .i8) (k : Fin k0_t2_loop.trips) (c : Fin 512) (r : Fin 128) (n : Fin 3584)
    (hn : n.val = 128 * k.val + r.val) : tripBytes q k (ix2 c r) = q (ix2 c n) := by
  refine congrArg q (funext fun a => Fin.ext ?_)
  match a with
  | ⟨0, _⟩ => show k0_off4 k 0 + 1 * c.val = c.val; rw [k0_off4_eq k]; show 0 + 1 * c.val = _; omega
  | ⟨1, _⟩ => show k0_off4 k 1 + 1 * r.val = n.val; rw [k0_off4_eq k, hn]; show 128 * k.val + 1 * r.val = _; omega

theorem tripNibbles_apply (q : Vec F S512x3584 .i8) (k : Fin k0_t2_loop.trips) (h : Fin 2) (r : Fin 128) (c : Fin 512)
    (n : Fin 3584) (hn : n.val = 128 * k.val + r.val) : tripNibbles q k h (ix2 r c) = nibble h.val (q (ix2 c n)) := by
  unfold tripNibbles nibble
  split
  · rw [pay6_apply, tripBytes_apply q k c r n hn]
  · rw [pay7_apply, tripBytes_apply q k c r n hn]

theorem tripRow_apply (b : Vec F S224x2x512 .bf16) (v : Fin 224 → Fin 512 → Elt F .bf16) (hb : ∀ r p c, b (ix3 r p c) = v r c)
    (k : Fin k0_t2_loop.trips) (g : Fin 4) (h : Fin 2) (m : Fin 224) (hm : m.val = 8 * k.val + 2 * g.val + h.val) (p : Fin 2)
    (c : Fin 512) : tripRow b k g h (ix3 (0 : Fin 1) p c) = v m c := by
  rw [← hb m p c]
  refine congrArg b (funext fun a => Fin.ext ?_)
  have e := k0_off5_eq k g h
  match a with
  | ⟨0, _⟩ => show k0_off5 k (BitVec.ofNat 32 (2 * g.val)) (BitVec.ofNat 32 h.val) 0 + 1 * 0 = m.val; rw [e, hm]; rfl
  | ⟨1, _⟩ => show k0_off5 k (BitVec.ofNat 32 (2 * g.val)) (BitVec.ofNat 32 h.val) 1 + 1 * p.val = p.val; rw [e]; show 0 + 1 * p.val = _; omega
  | ⟨2, _⟩ => show k0_off5 k (BitVec.ofNat 32 (2 * g.val)) (BitVec.ofNat 32 h.val) 2 + 1 * c.val = c.val; rw [e]; show 0 + 1 * c.val = _; omega

/-- A tile holds the weight matrix's values at its place. -/
theorem weightPiece_agrees (q : Vec F S512x3584 .i8) (s t : Vec F S224x2x512 .bf16) (sv tv : Fin 224 → Fin 512 → Elt F .bf16)
    (hs : ∀ r p c, s (ix3 r p c) = sv r c) (ht : ∀ r p c, t (ix3 r p c) = tv r c) (k : Fin k0_t2_loop.trips) (g : Fin 4)
    (h : Fin 2) (x : (weightPiece q s t k g h).1.shape.Idx) :
    (weightPiece q s t k g h).2 x = weights q sv tv ((weightPiece q s t k g h).1.emb x) := by
  have hk : k.val < 28 := trips2 ▸ k.isLt
  obtain ⟨i, c, rfl⟩ : ∃ (i : Fin 32) (c : Fin 512), x = ix2 i c := ⟨x 0, x 1, eq_ix2 x⟩
  have e := k0_off6_eq k g h
  have h0 : (((weightPiece q s t k g h).1.emb (ix2 i c)) (0 : Fin 2)).val = 256 * k.val + 64 * g.val + 32 * h.val + i.val := by
    show k0_off6 k (BitVec.ofNat 32 (2 * g.val)) (BitVec.ofNat 32 h.val) 0 + 1 * i.val = _
    rw [e, Nat.one_mul]; rfl
  have h1 : ((weightPiece q s t k g h).1.emb (ix2 i c)) (1 : Fin 2) = c := Fin.ext (by
    show k0_off6 k (BitVec.ofNat 32 (2 * g.val)) (BitVec.ofNat 32 h.val) 1 + 1 * c.val = _
    rw [e, Nat.one_mul]; exact Nat.zero_add _)
  generalize (weightPiece q s t k g h).1.emb (ix2 i c) = y at h0 h1
  have hm : (⟨(y 0).val / 32, by have : (y 0).val < 7168 := (y 0).isLt; omega⟩ : Fin 224).val = 8 * k.val + 2 * g.val + h.val := by
    show (y 0).val / 32 = _; omega
  refine (tile_apply (32 * g.val) (by omega) _ _ _ _ _ (tripRow_apply s sv hs k g h _ hm) (tripRow_apply t tv ht k g h _ hm) i c).trans ?_
  rw [tripNibbles_apply q k h _ c (⟨32 * ((y 0).val / 64) + (y 0).val % 32, by have : (y 0).val < 7168 := (y 0).isLt; omega⟩ : Fin 3584)
    (by show 32 * ((y 0).val / 64) + (y 0).val % 32 = 128 * k.val + (32 * g.val + i.val); omega)]
  unfold weights
  have hh : (y 0).val / 32 % 2 = h.val := by omega
  rw [hh, h1]

/-- Every place of the matrix is in the tile of its row. -/
theorem weightPiece_covers (q : Vec F S512x3584 .i8) (s t : Vec F S224x2x512 .bf16) (y : S7168x512.Idx) :
    y ∈ (weightPiece q s t ⟨(y 0).val / 256, by rw [trips2]; have h : (y 0).val < 7168 := (y 0).isLt; omega⟩
      ⟨(y 0).val / 64 % 4, by omega⟩ ⟨(y 0).val / 32 % 2, by omega⟩).1.set := by
  have h1 : (y 1).val < 512 := (y 1).isLt
  unfold weightPiece
  rw [Rect.mem_set_unit]
  rw [k0_off6_eq]
  intro a
  match a with
  | ⟨0, _⟩ =>
    show 256 * ((y 0).val / 256) + 64 * ((y 0).val / 64 % 4) + 32 * ((y 0).val / 32 % 2) ≤ (y 0).val
      ∧ (y 0).val < 256 * ((y 0).val / 256) + 64 * ((y 0).val / 64 % 4) + 32 * ((y 0).val / 32 % 2) + 32
    omega
  | ⟨1, _⟩ => show 0 ≤ (y 1).val ∧ (y 1).val < 0 + 512; omega

section Loop2

variable (𝒱 : Variants) (c : Dev nD) (bd : Option 𝒱.V) (i : grid0.Coords) (arg1 : Memref sig .tc .vmem S192x7168 .bf16)
   (harg1 : arg1.IsWhole) (arg2 : Memref sig .tc .vmem S512x3584 .i8) (harg2 : arg2.IsWhole)
   (arg3 : Memref sig .tc .vmem S28x512 .f16) (harg3 : arg3.IsWhole) (arg4 : Memref sig .tc .vmem S28x512 .f16)
   (harg4 : arg4.IsWhole) (arg5 : Memref sig .tc .vmem S224x512 .i8) (harg5 : arg5.IsWhole)
   (arg6 : Memref sig .tc .vmem S224x512 .i8) (harg6 : arg6.IsWhole) (arg7 : Memref sig .tc .vmem S192x512 .bf16)
   (harg7 : arg7.IsWhole) (arg8 : Memref sig .tc .vmem S224x2x512 .bf16) (harg8 : arg8.IsWhole)
   (arg9 : Memref sig .tc .vmem S224x2x512 .bf16) (harg9 : arg9.IsWhole) (arg10 : Memref sig .tc .vmem S7168x512 .bf16)
   (harg10 : arg10.IsWhole)
variable (X2 : BufTy.Contents (Elt F) arg2.view.ty) (X8 : BufTy.Contents (Elt F) arg8.view.ty)
  (X9 : BufTy.Contents (Elt F) arg9.view.ty)

/-- One trip of the second loop: its eight tiles, last first. -/
theorem trip2_eq (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 X2 X8 X9 k
      = [(3, 1), (3, 0), (2, 1), (2, 0), (1, 1), (1, 0), (0, 1), (0, 0)].map fun gh : Fin 4 × Fin 2 =>
          weightPiece (arg2.view.read (Elt F) X2) (arg8.view.read (Elt F) X8) (arg9.view.read (Elt F) X9) k gh.1 gh.2 := by
  unfold tripL_k0_t2 trip_k0_t2
  simp only [List.map_cons, List.map_nil]
  refine congrArg₂ List.cons (Sigma.ext rfl (heq_of_eq (pay3_eq (k0_pay7 _) _ _))) ?_
  refine congrArg₂ List.cons (Sigma.ext rfl (heq_of_eq (pay19_eq (k0_pay6 _) _ _))) ?_
  refine congrArg₂ List.cons (Sigma.ext rfl (heq_of_eq (pay18_eq (k0_pay7 _) _ _))) ?_
  refine congrArg₂ List.cons (Sigma.ext rfl (heq_of_eq (pay17_eq (k0_pay6 _) _ _))) ?_
  refine congrArg₂ List.cons (Sigma.ext rfl (heq_of_eq (pay13_eq (k0_pay7 _) _ _))) ?_
  refine congrArg₂ List.cons (Sigma.ext rfl (heq_of_eq (pay12_eq (k0_pay6 _) _ _))) ?_
  refine congrArg₂ List.cons (Sigma.ext rfl (heq_of_eq (pay9_eq (k0_pay7 _) _ _))) ?_
  exact congrArg₂ List.cons (Sigma.ext rfl (heq_of_eq (pay8_eq _ _ _))) rfl

/-- The pieces of the trips before `k`. -/
theorem mem_pb2 : ∀ k : Nat, k ≤ k0_t2_loop.trips → ∀ p, p ∈ pb_k0_t2 (F := F) 𝒱 c bd i arg1 harg1 arg2 harg2 arg3 harg3 arg4 harg4 arg5 harg5 arg6 harg6 arg7 harg7 arg8 harg8 arg9 harg9 arg10 harg10 X2 X8 X9 k ↔
      ∃ j : Fin k0_t2_loop.trips, j.val < k ∧ ∃ g h, p = weightPiece (arg2.view.read (Elt F) X2) (arg8.view.read (Elt F) X8)
        (arg9.view.read (Elt F) X9) j g h
  | 0, _, p => by
    constructor
    · intro h; exact absurd h List.not_mem_nil
    · rintro ⟨_, h, _⟩; exact absurd h (Nat.not_lt_zero _)
  | k + 1, hk, p => by
    have ih := mem_pb2 k (by omega) p
    have hs := pb_k0_t2_succ (F := F) 𝒱 c bd i arg1 harg1 arg2 harg2 arg3 harg3 arg4 harg4 arg5 harg5 arg6 harg6 arg7 harg7 arg8 harg8 arg9 harg9 arg10 harg10 X2 X8 X9 ⟨k, hk⟩
    rw [trip2_eq] at hs
    change pb_k0_t2 (F := F) 𝒱 c bd i arg1 harg1 arg2 harg2 arg3 harg3 arg4 harg4 arg5 harg5 arg6 harg6 arg7 harg7 arg8 harg8 arg9 harg9 arg10 harg10 X2 X8 X9 (k + 1) = _ at hs
    rw [hs]
    refine List.mem_append.trans ((or_congr_right ih).trans ?_)
    rw [List.mem_map]
    constructor
    · rintro (⟨gh, _, rfl⟩ | ⟨j, hj, h⟩)
      · exact ⟨⟨k, hk⟩, Nat.lt_succ_self k, gh.1, gh.2, rfl⟩
      · exact ⟨j, by omega, h⟩
    · rintro ⟨j, hj, g, h, rfl⟩
      by_cases e : j.val = k
      · obtain rfl : j = ⟨k, hk⟩ := Fin.ext e
        exact .inl ⟨(g, h), by fin_cases g <;> fin_cases h <;> simp, rfl⟩
      · exact .inr ⟨j, by omega, g, h, rfl⟩

/-- After the second loop the buffer holds the weight matrix. -/
theorem read_weights (G10 : BufTy.Contents (Elt F) arg10.view.ty) (sv tv : Fin 224 → Fin 512 → Elt F .bf16)
    (hs : ∀ r p c, arg8.view.read (Elt F) X8 (ix3 r p c) = sv r c) (ht : ∀ r p c, arg9.view.read (Elt F) X9 (ix3 r p c) = tv r c) :
    arg10.view.read (Elt F) (arg10.view.writes (Elt F) G10 (pb_k0_t2 (F := F) 𝒱 c bd i arg1 harg1 arg2 harg2 arg3 harg3 arg4 harg4 arg5 harg5 arg6 harg6 arg7 harg7 arg8 harg8 arg9 harg9 arg10 harg10 X2 X8 X9 k0_t2_loop.trips))
        = weights (arg2.view.read (Elt F) X2) sv tv := by
  have hm := mem_pb2 𝒱 c bd i arg1 harg1 arg2 harg2 arg3 harg3 arg4 harg4 arg5 harg5 arg6 harg6 arg7 harg7 arg8 harg8 arg9 harg9 arg10 harg10 X2 X8 X9 k0_t2_loop.trips le_rfl
  funext y
  refine read_writes_of_agree _ _ _ y _ (fun p hp x => ?_) ⟨_, (hm _).mpr ⟨_, Fin.isLt _, _, _, rfl⟩, weightPiece_covers _ _ _ y⟩
  obtain ⟨j, _, g, h, rfl⟩ := (hm p).mp hp
  exact weightPiece_agrees _ _ _ sv tv hs ht j g h x

end Loop2

end Cert.KernelIdeal.Hand

end
-- ==== Proof.Body.lean ====
/-
  ONE RUN OF THE KERNEL'S BODY. On its seven blocks and three scratch buffers the body leaves its inputs as they were and, in
  the output block, the product of the activations with the block's weight matrix, rounded to bf16; the scratch buffers end
  with contents that nothing reads.
-/
module

public import proofs.«01_k».proof.Proof.Weights
public import proofs.«01_k».proof.Proof.Gen.KernelIdeal.Frame
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The scale (or offset) of sub-block `r` in column `c`: its super-block's scale times its own 8-bit scale. -/
def rowOf (d : Vec F S28x512 .f16) (b : Vec F S224x512 .i8) (r : Fin 224) (c : Fin 512) : Elt F .bf16 :=
  scaled (d (ix2 (⟨r.val / 8, by omega⟩ : Fin 28) c)) (b (ix2 r c))

/-- The output block as a function of the six input blocks. -/
def outBlock (x : Vec F S192x7168 .bf16) (q : Vec F S512x3584 .i8) (d dm : Vec F S28x512 .f16) (sc mn : Vec F S224x512 .i8) :
    Vec F S192x512 .bf16 :=
  k0_pay4 x (weights q (rowOf d sc) (rowOf dm mn))

-- the run's proof term is large: checking it walks past the default budget
set_option maxHeartbeats 1000000 in
/-- The body's triple. -/
theorem kernel_run (c : Dev nD) (i : grid0.Coords) (arg1 : Memref sig .tc .vmem S192x7168 .bf16) (harg1 : arg1.IsWhole) (arg2 :
    Memref sig .tc .vmem S512x3584 .i8) (harg2 : arg2.IsWhole) (arg3 : Memref sig .tc .vmem S28x512 .f16) (harg3 : arg3.IsWhole)
    (arg4 : Memref sig .tc .vmem S28x512 .f16) (harg4 : arg4.IsWhole) (arg5 : Memref sig .tc .vmem S224x512 .i8) (harg5 :
    arg5.IsWhole) (arg6 : Memref sig .tc .vmem S224x512 .i8) (harg6 : arg6.IsWhole) (arg7 : Memref sig .tc .vmem S192x512 .bf16)
    (harg7 : arg7.IsWhole) (arg8 : Memref sig .tc .vmem S224x2x512 .bf16) (harg8 : arg8.IsWhole) (arg9 : Memref sig .tc .vmem
    S224x2x512 .bf16) (harg9 : arg9.IsWhole) (arg10 : Memref sig .tc .vmem S7168x512 .bf16) (harg10 : arg10.IsWhole)
    (x0 : Vec F S192x7168 .bf16) (x1 : Vec F S512x3584 .i8) (x2 : Vec F S28x512 .f16) (x3 : Vec F S28x512 .f16) (x4 : Vec F
        S224x512 .i8) (x5 : Vec F S224x512 .i8) :
      ∀ (E : Set ℕ) (K : PUnit → sProp 𝕄),
        iprop(owns (c : Thread nD τ) arg1 fullShare x0 ∗ owns (c : Thread nD τ) arg2 fullShare x1 ∗ owns (c : Thread nD τ) arg3
            fullShare x2 ∗ owns (c : Thread nD τ) arg4 fullShare x3 ∗ owns (c : Thread nD τ) arg5 fullShare x4 ∗ owns (c :
            Thread nD τ) arg6 fullShare x5 ∗ (∃ d, owns (c : Thread nD τ) arg7 fullShare d) ∗ (∃ d, owns (c : Thread nD τ) arg8
            fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD
                τ) arg3 fullShare x2 ∗ owns (c : Thread nD τ) arg4 fullShare x3 ∗ owns (c : Thread nD τ) arg5 fullShare x4 ∗
                owns (c : Thread nD τ) arg6 fullShare x5 ∗ owns (c : Thread nD τ) arg7 fullShare (outBlock x0 x1 x2 x3 x4 x5) ∗
                (∃ d, owns (c : Thread nD τ) arg8 fullShare d) ∗ (∃ d, owns (c : Thread nD τ) arg9 fullShare d) ∗ (∃ d, owns (c
                : Thread nD τ) arg10 fullShare d)) -∗ K ⟨⟩))
          ⊢ wp frame (wpE (defs₀ (F := F)) Variants.none c none) E (cc0_q4k_linear i arg1 harg1 arg2 harg2 arg3 harg3 arg4 harg4
              arg5 harg5 arg6 harg6 arg7 harg7 arg8 harg8 arg9 harg9 arg10 harg10) K := by
    intro E K
    simp only [cc0_q4k_linear_eq_skeleton]; unfold cc0_q4k_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -,
        H6⟩, ⟨%ds0, %fs0, -, HS0⟩, ⟨%ds1, %fs1, -, HS1⟩, ⟨%ds2, %fs2, -, HS2⟩, Hk⟩
    obtain rfl := harg1.eq_unread hf0
    obtain rfl := harg2.eq_unread hf1
    obtain rfl := harg3.eq_unread hf2
    obtain rfl :=
        harg4.eq_unread hf3
    obtain rfl := harg5.eq_unread hf4
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      have hr := read_scales Variants.none c none i arg1 harg1 arg2 harg2 arg3 harg3 arg4 harg4 arg5 harg5 arg6 harg6 arg7 harg7
          arg8 harg8 arg9 harg9 arg10 harg10 (harg3.unread x2)
        (harg4.unread x3) (harg5.unread x4) (harg6.unread x5) fs0 fs1
      rw [hf2, hf3, hf4, hf5] at hr
      have hw := read_weights Variants.none c none i arg1 harg1 arg2 harg2 arg3 harg3 arg4 harg4 arg5 harg5 arg6 harg6 arg7 harg7
          arg8 harg8 arg9 harg9 arg10 harg10 (harg2.unread x1) _ _ fs2
        (rowOf x2 x4) (rowOf x3 x5) (fun r p c => congrFun hr.1 (ix3 r p c)) (fun r p c => congrFun hr.2 (ix3 r p c))
      rw [hf1] at hw
      rw [View.read_writes_full, View.readAt_full, View.readAt_full, hf0]
      exact congrArg (k0_pay4 x0) hw
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand

end
-- ==== Proof.Run.lean ====
/-
  THE RUN OF THE KERNEL'S IDEALIZATION. The body's triple, at every point of the grid, gives the region's run with every
  array at what the body leaves in it; from it the frame claim, and (in the next module) the result.
-/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S192x7168 .bf16 := win0_0.stage (cfg0.slots t 0)
abbrev ms0_1 (t : Fin cfg0.N) : Memref sig .tc .vmem S512x3584 .i8 := win0_1.stage (cfg0.slots t 1)
abbrev ms0_2 (t : Fin cfg0.N) : Memref sig .tc .vmem S28x512 .f16 := win0_2.stage (cfg0.slots t 2)
abbrev ms0_3 (t : Fin cfg0.N) : Memref sig .tc .vmem S28x512 .f16 := win0_3.stage (cfg0.slots t 3)
abbrev ms0_4 (t : Fin cfg0.N) : Memref sig .tc .vmem S224x512 .i8 := win0_4.stage (cfg0.slots t 4)
abbrev ms0_5 (t : Fin cfg0.N) : Memref sig .tc .vmem S224x512 .i8 := win0_5.stage (cfg0.slots t 5)
abbrev ms0_6 (t : Fin cfg0.N) : Memref sig .tc .vmem S192x512 .bf16 := win0_6.stage (cfg0.slots t 6)
abbrev scM0_0 : Memref sig .tc .vmem S224x2x512 .bf16 := Memref.whole cc0_scratch0
abbrev scM0_1 : Memref sig .tc .vmem S224x2x512 .bf16 := Memref.whole cc0_scratch1
abbrev scM0_2 : Memref sig .tc .vmem S7168x512 .bf16 := Memref.whole cc0_scratch2

/-- The region's scoped memory with the scratch operands as memrefs owned at some contents: what the body is handed and
    gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d,
          owns (c : Thread nD τ) scM0_2 fullShare d)) ∗ (∃ r, prngReg c r)) := by
  unfold Pipeline.ΦA; rw [scopedRest0_eq]; simp only [scM0_0, scM0_1, scM0_2, owns_whole]; try rfl

/-- The output block of point `t`: `outBlock` of the six input blocks there. -/
def outAt (c : Dev nD) (t : Fin cfg0.N) : Vec F S192x512 .bf16 :=
  outBlock (iblk m c 0 t) (iblk m c 1 t) (iblk m c 2 t) (iblk m c 3 t) (iblk m c 4 t) (iblk m c 5 t)

/-- The proof data of the one pipeline on core `c`: the arrays as the region finds them (`V`); after the body at
    point `t` each input's buffer at its block and the output's at `outBlock` of the six blocks; the invariant the scratch buffers
    at some contents and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

/-- The proof data's arrays are the region-entry contents: the proof data's definition projected (`dsimp`). -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' buffers hold their blocks (`before0_W`), so the run applies; the invariant hands the body
    its
    scratch buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernel_run c (grid0.coords t) _ _ _ _ _ _ _ _ _ _ _ _ _ _ _ _ _ _ _ _ (iblk m c 0 t) (iblk m c 1 t) (iblk m c 2 t)
      (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t
    => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0
    (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀
    cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.Array.lean ====
/-
  THE RESULT ARRAY. The ten blocks of 512 columns that the grid writes back tile the [192, 5120] array; the host's reshape
  after the region hands it on as [192, 1, 5120]. The six input blocks at a grid point are read back to the argument arrays.
-/
module

public import proofs.«01_k».proof.Proof.Run
public import Idealize.ShloMosaic.Lib.Claim
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- The grid point whose block holds column `o`. -/
def pointOf (o : Fin 5120) : Fin cfg0.N := ⟨o.val / 512, by rw [show cfg0.N = 10 from N_0]; omega⟩

/-- The result array: column `o` is column `o % 512` of the block of point `o / 512`. -/
def result (c : Dev nD) : Vec F S192x5120 .bf16 := fun i =>
  outAt m c (pointOf (i 1)) (ix2 (i 0) (⟨(i 1).val % 512, Nat.mod_lt _ (by decide)⟩ : Fin 512))

/-- Every window of the kernel reads or writes column block `t` at point `t`, but the activations, which it reads whole, and
    the quants, of which it reads row block `t`. -/
theorem index_eq : ∀ t : Fin cfg0.N, (win0_0.index t 0 = 0 ∧ win0_0.index t 1 = 0)
    ∧ (win0_1.index t 0 = t.val ∧ win0_1.index t 1 = 0) ∧ (win0_2.index t 0 = 0 ∧ win0_2.index t 1 = t.val)
    ∧ (win0_3.index t 0 = 0 ∧ win0_3.index t 1 = t.val) ∧ (win0_4.index t 0 = 0 ∧ win0_4.index t 1 = t.val)
    ∧ (win0_5.index t 0 = 0 ∧ win0_5.index t 1 = t.val) ∧ (win0_6.index t 0 = 0 ∧ win0_6.index t 1 = t.val) := by
  decide +kernel

/-- What point `t` writes back is block `t` of the result array. -/
theorem flushed_eq (c : Dev nD) (t : Fin cfg0.N) (_ : (cfg0.win 6).flush t = true) :
    (dats m 0 c).flushed 6 t = ((cfg0.win 6).blk t).view.read (Elt F) (result m c) := by
  show (cfg0.win 6).cut (grid0.coords t) ((dats m 0 c).after 6 t) = _
  rw [after0_6]
  have hi := (index_eq t).2.2.2.2.2.2
  have ht : t.val < 10 := N_0 ▸ t.isLt
  funext j
  rw [View.read_apply]
  have h0 : (j 0).val < 192 := (j 0).isLt
  have h1 : (j 1).val < 512 := (j 1).isLt
  obtain ⟨i, hidx, e0, e1⟩ : ∃ i : S192x5120.Idx, ((cfg0.win 6).blk t).view.emb j = i ∧ (i 0).val = (j 0).val
      ∧ (i 1).val = t.val * 512 + (j 1).val := by
    refine ⟨_, rfl, ?_, ?_⟩
    · show win0_6.index t 0 * 192 + 1 * (j 0).val = (j 0).val
      rw [hi.1]; omega
    · show win0_6.index t 1 * 512 + 1 * (j 1).val = _
      rw [hi.2]; omega
  rw [hidx]
  have hp : pointOf (i 1) = t := Fin.ext (by show (i 1).val / 512 = t.val; omega)
  show outAt m c t _ = outAt m c (pointOf (i 1)) _
  rw [hp]
  congr 1
  funext a
  apply Fin.ext
  match a with
  | ⟨0, _⟩ => show (j 0).val = (i 0).val; omega
  | ⟨1, _⟩ => show (j 1).val = (i 1).val % 512; omega

/-- So the array ends at the result: the point that covers column `o` is `o / 512`. -/
theorem final_o (c : Dev nD) : (dats m 0 c).arrAt 6 cfg0.N = result m c :=
  (dats m 0 c).arrAt_eq_of_cover 6 (result m c) (flushed_eq m c) fun i =>
    ⟨pointOf (i 1), flush0_6 _, by
      have h0 : (i 0 : Nat) < 192 := (i 0).isLt
      have h1 : (i 1 : Nat) < 5120 := (i 1).isLt
      have hi := (index_eq (pointOf (i 1))).2.2.2.2.2.2
      show i ∈ ((View.whole main_v5).slice (win0_6.rect (pointOf (i 1)))).set
      rw [View.set_slice_whole, Rect.mem_set_unit]
      intro a
      match a with
      | ⟨0, _⟩ =>
        show win0_6.index (pointOf (i 1)) 0 * 192 ≤ (i 0 : Nat) ∧ (i 0 : Nat) < win0_6.index (pointOf (i 1)) 0 * 192 + 192
        rw [hi.1]; omega
      | ⟨1, _⟩ =>
        show win0_6.index (pointOf (i 1)) 1 * 512 ≤ (i 1 : Nat) ∧ (i 1 : Nat) < win0_6.index (pointOf (i 1)) 1 * 512 + 512
        rw [hi.2]
        show (i 1).val / 512 * 512 ≤ (i 1).val ∧ (i 1).val < (i 1).val / 512 * 512 + 512
        omega⟩

/-- After the region the host reshapes the array. -/
theorem tail_eq (c : Dev nD) : Pipeline.afterTail₀ cfgs (dats m) 0 (V0 m) [hostOps1] c main_v6
    = shapeCast S192x1x5120 (result m c) shapeCasts_S192x5120_S192x1x5120 := by
  unfold Pipeline.afterTail₀
  have h : Pipeline.withArrays (cfgs 0).spec c (V0 m c) (fun w => (dats m 0 c).arrAt w (cfgs 0).N) (Proc.devRef .tc main_v5)
      = result m c :=
    (Pipeline.withArrays_arr (cfgs 0).spec (by exact (by decide : Function.Injective (Pipeline.arrRef spec0))) c (V0 m c)
      (fun w => (dats m 0 c).arrAt w (cfgs 0).N) 6).trans (final_o m c)
  rw [← h]
  after_results
  rfl

/-- The run, read: the result the array with its middle axis put back, the arguments unchanged. -/
theorem run : θ_run defs (onTc (τ := τ) (main (F := F))) ⟨m, fun _ => 0, ρ⟩ (fun r => ∀ c : Dev nD,
      r.2.mem ((c.tc : Thread nD τ).loc main_v6) = shapeCast S192x1x5120 (result m c) shapeCasts_S192x5120_S192x1x5120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, h.2 c⟩) (θ_run_and (run_main m ρ) (unchanged m ρ))
  exact ((h.1 c).2 main_v6 (Pipeline.mem_restRefs_of main_v6 (by decide) (by decide))).trans (tail_eq m c)

end Cert.KernelIdeal.Hand

end
-- ==== Proof.Inputs.lean ====
/-
  THE INPUT BLOCKS AT AN INDEX. At grid point `t` the kernel's column `j` is output column `512 t + j`; the host transposes the
  scales before the region, so each block read is one element of an argument array.
-/
module

public import proofs.«01_k».proof.Proof.Array

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]

variable (m : (ℓ : Loc nD τ sig) → Buf (Elt F) ℓ)

/-- The output column that column `j` of point `t` is. -/
def col (t : Fin cfg0.N) (j : Fin 512) : Fin 5120 := ⟨512 * t.val + j.val, by have : t.val < 10 := N_0 ▸ t.isLt; omega⟩

/-- The argument arrays. -/
abbrev argX (c : Dev nD) : Vec F S192x1x7168 .bf16 := m ((c.tc : Thread nD τ).loc main_arg0)
abbrev argQ (c : Dev nD) : Vec F S5120x3584 .i8 := m ((c.tc : Thread nD τ).loc main_arg1)
abbrev argD (c : Dev nD) : Vec F S5120x28 .f16 := m ((c.tc : Thread nD τ).loc main_arg2)
abbrev argDm (c : Dev nD) : Vec F S5120x28 .f16 := m ((c.tc : Thread nD τ).loc main_arg3)
abbrev argS (c : Dev nD) : Vec F S5120x224 .i8 := m ((c.tc : Thread nD τ).loc main_arg4)
abbrev argM (c : Dev nD) : Vec F S5120x224 .i8 := m ((c.tc : Thread nD τ).loc main_arg5)

theorem V_v0 (c : Dev nD) : V m c main_v0 = shapeCast S192x7168 (argX m c) shapeCasts_S192x1x7168_S192x7168 := by
  entry_read; rfl
theorem V_v1 (c : Dev nD) : V m c main_v1 = transpose S28x5120 [1, 0] (argD m c) transposes_S5120x28_S28x5120_1_0 := by
  entry_read; after_results; rfl
theorem V_v2 (c : Dev nD) : V m c main_v2 = transpose S28x5120 [1, 0] (argDm m c) transposes_S5120x28_S28x5120_1_0 := by
  entry_read; after_results; rfl
theorem V_v3 (c : Dev nD) : V m c main_v3 = transpose S224x5120 [1, 0] (argS m c) transposes_S5120x224_S224x5120_1_0 := by
  entry_read; after_results; rfl
theorem V_v4 (c : Dev nD) : V m c main_v4 = transpose S224x5120 [1, 0] (argM m c) transposes_S5120x224_S224x5120_1_0 := by
  entry_read; after_results; rfl

theorem iblk0 (c : Dev nD) (t : Fin cfg0.N) (b : Fin 192) (k : Fin 7168) :
    (iblk m c 0 t : Vec F S192x7168 .bf16) (ix2 b k) = argX m c (ix3 b 0 k) := by
  have hi := (index_eq t).1
  unfold iblk
  rw [View.read_apply]
  have he : ((cfg0.win 0).blk t).view.emb (ix2 b k) = (ix2 b k : S192x7168.Idx) := by
    funext a
    apply Fin.ext
    match a with
    | ⟨0, _⟩ => show win0_0.index t 0 * 192 + 1 * b.val = b.val; rw [hi.1]; omega
    | ⟨1, _⟩ => show win0_0.index t 1 * 7168 + 1 * k.val = k.val; rw [hi.2]; omega
  rw [he]
  show V m c main_v0 (ix2 b k) = _
  rw [V_v0]
  pointwise

theorem iblk1 (c : Dev nD) (t : Fin cfg0.N) (j : Fin 512) (k : Fin 3584) :
    (iblk m c 1 t : Vec F S512x3584 .i8) (ix2 j k) = argQ m c (ix2 (col t j) k) := by
  have hi := (index_eq t).2.1
  unfold iblk
  rw [View.read_apply]
  have he : ((cfg0.win 1).blk t).view.emb (ix2 j k) = (ix2 (col t j) k : S5120x3584.Idx) := by
    funext a
    apply Fin.ext
    match a with
    | ⟨0, _⟩ => show win0_1.index t 0 * 512 + 1 * j.val = 512 * t.val + j.val; rw [hi.1]; omega
    | ⟨1, _⟩ => show win0_1.index t 1 * 3584 + 1 * k.val = k.val; rw [hi.2]; omega
  rw [he]
  show V m c main_arg1 (ix2 (col t j) k) = _
  rw [V_main_arg1]

theorem iblk2 (c : Dev nD) (t : Fin cfg0.N) (r : Fin 28) (j : Fin 512) :
    (iblk m c 2 t : Vec F S28x512 .f16) (ix2 r j) = argD m c (ix2 (col t j) r) := by
  have hi := (index_eq t).2.2.1
  unfold iblk
  rw [View.read_apply]
  have he : ((cfg0.win 2).blk t).view.emb (ix2 r j) = (ix2 r (col t j) : S28x5120.Idx) := by
    funext a
    apply Fin.ext
    match a with
    | ⟨0, _⟩ => show win0_2.index t 0 * 28 + 1 * r.val = r.val; rw [hi.1]; omega
    | ⟨1, _⟩ => show win0_2.index t 1 * 512 + 1 * j.val = 512 * t.val + j.val; rw [hi.2]; omega
  rw [he]
  show V m c main_v1 (ix2 r (col t j)) = _
  rw [V_v1]
  pointwise

theorem iblk3 (c : Dev nD) (t : Fin cfg0.N) (r : Fin 28) (j : Fin 512) :
    (iblk m c 3 t : Vec F S28x512 .f16) (ix2 r j) = argDm m c (ix2 (col t j) r) := by
  have hi := (index_eq t).2.2.2.1
  unfold iblk
  rw [View.read_apply]
  have he : ((cfg0.win 3).blk t).view.emb (ix2 r j) = (ix2 r (col t j) : S28x5120.Idx) := by
    funext a
    apply Fin.ext
    match a with
    | ⟨0, _⟩ => show win0_3.index t 0 * 28 + 1 * r.val = r.val; rw [hi.1]; omega
    | ⟨1, _⟩ => show win0_3.index t 1 * 512 + 1 * j.val = 512 * t.val + j.val; rw [hi.2]; omega
  rw [he]
  show V m c main_v2 (ix2 r (col t j)) = _
  rw [V_v2]
  pointwise

theorem iblk4 (c : Dev nD) (t : Fin cfg0.N) (r : Fin 224) (j : Fin 512) :
    (iblk m c 4 t : Vec F S224x512 .i8) (ix2 r j) = argS m c (ix2 (col t j) r) := by
  have hi := (index_eq t).2.2.2.2.1
  unfold iblk
  rw [View.read_apply]
  have he : ((cfg0.win 4).blk t).view.emb (ix2 r j) = (ix2 r (col t j) : S224x5120.Idx) := by
    funext a
    apply Fin.ext
    match a with
    | ⟨0, _⟩ => show win0_4.index t 0 * 224 + 1 * r.val = r.val; rw [hi.1]; omega
    | ⟨1, _⟩ => show win0_4.index t 1 * 512 + 1 * j.val = 512 * t.val + j.val; rw [hi.2]; omega
  rw [he]
  show V m c main_v3 (ix2 r (col t j)) = _
  rw [V_v3]
  pointwise

theorem iblk5 (c : Dev nD) (t : Fin cfg0.N) (r : Fin 224) (j : Fin 512) :
    (iblk m c 5 t : Vec F S224x512 .i8) (ix2 r j) = argM m c (ix2 (col t j) r) := by
  have hi := (index_eq t).2.2.2.2.2.1
  unfold iblk
  rw [View.read_apply]
  have he : ((cfg0.win 5).blk t).view.emb (ix2 r j) = (ix2 r (col t j) : S224x5120.Idx) := by
    funext a
    apply Fin.ext
    match a with
    | ⟨0, _⟩ => show win0_5.index t 0 * 224 + 1 * r.val = r.val; rw [hi.1]; omega
    | ⟨1, _⟩ => show win0_5.index t 1 * 512 + 1 * j.val = 512 * t.val + j.val; rw [hi.2]; omega
  rw [he]
  show V m c main_v4 (ix2 r (col t j)) = _
  rw [V_v4]
  pointwise

end Cert.KernelIdeal.Hand

end
-- ==== Proof.Value.lean ====
/-
  THE KERNEL'S RESULT AT AN INDEX, over the extended reals: row `b`, column `o` is the sum over the 7168 inner positions of the
  activation times the weight, which is the nibble of the position's byte times the sub-block's scale, less its offset.
-/
module

public import proofs.«01_k».proof.Proof.Inputs

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- A weight: the nibble's number times the scale, less the offset, each of the latter two a super-block's number times an
    8-bit number. -/
def weight (h : Nat) (b : BitVec 8) (d dm : Elt Ideal .f16) (s t : BitVec 8) : Elt Ideal .bf16 :=
  FloatOps.subf (F := Ideal) (φ := .bf16) (FloatOps.mulf (F := Ideal) (φ := .bf16) (nibble (F := Ideal) h b) (scaled (F := Ideal) d s))
    (scaled (F := Ideal) dm t)

/-- The weight at inner position `k` of output column `o`. -/
def weightAt (q : Vec Ideal S5120x3584 .i8) (d dm : Vec Ideal S5120x28 .f16) (s t : Vec Ideal S5120x224 .i8)
    (o : Fin 5120) (k : Fin 7168) : Elt Ideal .bf16 :=
  weight (k.val / 32 % 2) (q (ix2 o (⟨32 * (k.val / 64) + k.val % 32, by omega⟩ : Fin 3584)))
    (d (ix2 o (⟨k.val / 32 / 8, by omega⟩ : Fin 28))) (dm (ix2 o (⟨k.val / 32 / 8, by omega⟩ : Fin 28)))
    (s (ix2 o (⟨k.val / 32, by omega⟩ : Fin 224))) (t (ix2 o (⟨k.val / 32, by omega⟩ : Fin 224)))

/-- The product at row `b`, column `o`. -/
def product (x : Vec Ideal S192x1x7168 .bf16) (q : Vec Ideal S5120x3584 .i8) (d dm : Vec Ideal S5120x28 .f16)
    (s t : Vec Ideal S5120x224 .i8) (b : Fin 192) (o : Fin 5120) : EReal :=
  ∑ k : Fin 7168, (x (ix3 b 0 k) : EReal) * weightAt q d dm s t o k

variable (m : (ℓ : Loc nD τ sig) → Buf (Elt Ideal) ℓ)

/-- The last step of the body, over the extended reals. -/
theorem pay4_apply (x : Vec Ideal S192x7168 .bf16) (w : Vec Ideal S7168x512 .bf16) (b : Fin 192) (j : Fin 512) :
    k0_pay4 x w (ix2 b j) = ∑ k : Fin 7168, (x (ix2 b k) : EReal) * w (ix2 k j) := by
  pointwise [k0_pay4]

theorem outAt_apply (c : Dev nD) (t : Fin cfg0.N) (b : Fin 192) (j : Fin 512) :
    outAt m c t (ix2 b j)
      = product (argX m c) (argQ m c) (argD m c) (argDm m c) (argS m c) (argM m c) b (col t j) := by
  unfold outAt outBlock product
  rw [pay4_apply]
  refine Finset.sum_congr rfl fun k _ => ?_
  rw [iblk0]
  congr 1
  show FloatOps.subf (FloatOps.mulf (nibble _ ((iblk m c 1 t : Vec Ideal S512x3584 .i8) (ix2 j _)))
    (scaled ((iblk m c 2 t : Vec Ideal S28x512 .f16) (ix2 _ j)) ((iblk m c 4 t : Vec Ideal S224x512 .i8) (ix2 _ j))))
    (scaled ((iblk m c 3 t : Vec Ideal S28x512 .f16) (ix2 _ j)) ((iblk m c 5 t : Vec Ideal S224x512 .i8) (ix2 _ j))) = _
  rw [iblk1, iblk2, iblk3, iblk4, iblk5]
  rfl

theorem result_apply (c : Dev nD) (b : Fin 192) (o : Fin 5120) :
    result m c (ix2 b o)
      = product (argX m c) (argQ m c) (argD m c) (argDm m c) (argS m c) (argM m c) b o := by
  show outAt m c (pointOf o) (ix2 b _) = _
  rw [outAt_apply]
  congr 1
  apply Fin.ext
  show 512 * (o.val / 512) + o.val % 512 = o.val
  omega

/-- The returned array at row `b`, column `o`. -/
theorem returned_apply (c : Dev nD) (b : Fin 192) (o : Fin 5120) :
    shapeCast S192x1x5120 (result m c) shapeCasts_S192x5120_S192x1x5120 (ix3 b 0 o)
      = product (argX m c) (argQ m c) (argD m c) (argDm m c) (argS m c) (argM m c) b o := by
  rw [← result_apply]
  pointwise

end Cert.KernelIdeal.Hand

end
-- ==== Proof.Reference.lean ====
/-
  THE REFERENCE'S RESULT AT AN INDEX, over the extended reals. Its region converts the two arrays of super-block scales, an
  identity here; the host lines before it split each byte into its nibbles, the ones after it scale, contract and add.
-/
module

public import proofs.«01_k».proof.Proof.Gen.ReferenceIdeal.Frame
public import Idealize.ShloMosaic.Lib.Claim
public import Idealize.ShloMosaic.Lib.Pointwise
public import Idealize.ShloMosaic.Lib.StableHlo.ReadAt

@[expose] public section

set_option maxRecDepth 16384

noncomputable section

namespace Cert.ReferenceIdeal.Hand

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen

section Region

variable {F : FTy → Type} [FloatOps F]
variable (m : (ℓ : Loc nD τ sig) → Buf (Elt F) ℓ)

/-- An array of super-block scales, converted. -/
def widened (d : Vec F S5120x28 .f16) : Vec F S5120x28 .f32 := fun i => FloatOps.extf .f32 bitsLt_f16_f32 (d i)

theorem hz : (![0, 0] : Fin 2 → Nat) = fun _ => 0 := funext fun a => by fin_cases a <;> rfl

theorem out2_eq (x0 x1 : Vec F S5120x28 .f16) : out0_2 x0 x1 = widened x0 := by
  unfold out0_2
  rw [View.canon_unit_zero hz, View.ld_unit_zero (S := S5120x28) hz]
  rfl

theorem out3_eq (x0 x1 : Vec F S5120x28 .f16) : out0_3 x0 x1 = widened x1 := by
  unfold out0_3
  rw [View.canon_unit_zero hz, View.ld_unit_zero (S := S5120x28) hz]
  rfl

/-- Window 0's one block is its whole array. -/
theorem emb0 (t : Fin cfg0.N) (j : S5120x28.Idx) : ((cfg0.win 0).blk t).view.emb j = j := by
  funext a
  apply Fin.ext
  match a with
  | ⟨0, _⟩ => show 0 * 5120 + 1 * (j 0).val = (j 0).val; omega
  | ⟨1, _⟩ => show 0 * 28 + 1 * (j 1).val = (j 1).val; omega

/-- Window 1's one block is its whole array. -/
theorem emb1 (t : Fin cfg0.N) (j : S5120x28.Idx) : ((cfg0.win 1).blk t).view.emb j = j := by
  funext a
  apply Fin.ext
  match a with
  | ⟨0, _⟩ => show 0 * 5120 + 1 * (j 0).val = (j 0).val; omega
  | ⟨1, _⟩ => show 0 * 28 + 1 * (j 1).val = (j 1).val; omega

/-- Window 2's one block is its whole array. -/
theorem emb2 (t : Fin cfg0.N) (j : S5120x28.Idx) : ((cfg0.win 2).blk t).view.emb j = j := by
  funext a
  apply Fin.ext
  match a with
  | ⟨0, _⟩ => show 0 * 5120 + 1 * (j 0).val = (j 0).val; omega
  | ⟨1, _⟩ => show 0 * 28 + 1 * (j 1).val = (j 1).val; omega

/-- Window 3's one block is its whole array. -/
theorem emb3 (t : Fin cfg0.N) (j : S5120x28.Idx) : ((cfg0.win 3).blk t).view.emb j = j := by
  funext a
  apply Fin.ext
  match a with
  | ⟨0, _⟩ => show 0 * 5120 + 1 * (j 0).val = (j 0).val; omega
  | ⟨1, _⟩ => show 0 * 28 + 1 * (j 1).val = (j 1).val; omega

theorem iblk0 (c : Dev nD) (t : Fin cfg0.N) : iblk m c 0 t = m ((c.tc : Thread nD τ).loc main_arg2) := by
  funext j
  unfold iblk
  rw [View.read_apply, emb0]
  exact congrFun (V_main_arg2 m c) j

theorem iblk1 (c : Dev nD) (t : Fin cfg0.N) : iblk m c 1 t = m ((c.tc : Thread nD τ).loc main_arg3) := by
  funext j
  unfold iblk
  rw [View.read_apply, emb1]
  exact congrFun (V_main_arg3 m c) j

/-- The region's result 0 ends as the converted scales. -/
theorem final2 (c : Dev nD) :
    (dats m 0 c).arrAt 2 cfg0.N = widened (m ((c.tc : Thread nD τ).loc main_arg2) : Vec F S5120x28 .f16) :=
  (dats m 0 c).arrAt_eq_of_cover 2 (widened (m ((c.tc : Thread nD τ).loc main_arg2) : Vec F S5120x28 .f16))
    (fun t _ => by
      show (cfg0.win 2).cut (grid0.coords t) ((dats m 0 c).after 2 t) = _
      rw [after0_2, out2_eq, iblk0]
      funext j
      rw [View.read_apply, emb2]
      rfl)
    fun i => ⟨t0_0, flush0_2 _, by
      have h := View.emb_mem_set ((cfg0.win 2).blk t0_0).view i
      rwa [emb2] at h⟩

/-- The region's result 1 ends as the converted scales. -/
theorem final3 (c : Dev nD) :
    (dats m 0 c).arrAt 3 cfg0.N = widened (m ((c.tc : Thread nD τ).loc main_arg3) : Vec F S5120x28 .f16) :=
  (dats m 0 c).arrAt_eq_of_cover 3 (widened (m ((c.tc : Thread nD τ).loc main_arg3) : Vec F S5120x28 .f16))
    (fun t _ => by
      show (cfg0.win 3).cut (grid0.coords t) ((dats m 0 c).after 3 t) = _
      rw [after0_3, out3_eq, iblk1]
      funext j
      rw [View.read_apply, emb3]
      rfl)
    fun i => ⟨t0_0, flush0_3 _, by
      have h := View.emb_mem_set ((cfg0.win 3).blk t0_0).view i
      rwa [emb3] at h⟩

end Region

/-- The argument arrays. -/
abbrev argX (m : (ℓ : Loc nD τ sig) → Buf (Elt Ideal) ℓ) (c : Dev nD) : Vec Ideal S192x1x7168 .bf16 :=
  m ((c.tc : Thread nD τ).loc main_arg0)
abbrev argQ (m : (ℓ : Loc nD τ sig) → Buf (Elt Ideal) ℓ) (c : Dev nD) : Vec Ideal S5120x3584 .i8 :=
  m ((c.tc : Thread nD τ).loc main_arg1)
abbrev argD (m : (ℓ : Loc nD τ sig) → Buf (Elt Ideal) ℓ) (c : Dev nD) : Vec Ideal S5120x28 .f16 :=
  m ((c.tc : Thread nD τ).loc main_arg2)
abbrev argDm (m : (ℓ : Loc nD τ sig) → Buf (Elt Ideal) ℓ) (c : Dev nD) : Vec Ideal S5120x28 .f16 :=
  m ((c.tc : Thread nD τ).loc main_arg3)
abbrev argS (m : (ℓ : Loc nD τ sig) → Buf (Elt Ideal) ℓ) (c : Dev nD) : Vec Ideal S5120x224 .i8 :=
  m ((c.tc : Thread nD τ).loc main_arg4)
abbrev argM (m : (ℓ : Loc nD τ sig) → Buf (Elt Ideal) ℓ) (c : Dev nD) : Vec Ideal S5120x224 .i8 :=
  m ((c.tc : Thread nD τ).loc main_arg5)

/-- A byte's low (`h = 0`) or high nibble as the reference computes it, in 32-bit arithmetic. -/
def nibble (h : Nat) (b : BitVec 8) : EReal :=
  FloatOps.sitofp (F := Ideal) .bf16 (if h = 0 then b.setWidth 32 &&& 15#32 else IntOp.shrsi .host (b.setWidth 32) 4#32)

/-- A byte as a number. -/
def byte (b : BitVec 8) : EReal := FloatOps.sitofp (F := Ideal) .f32 (b.setWidth 32)

/-- One half of the contraction (`h = 0`: the low nibbles, `h = 1`: the high ones). -/
def half (h : Fin 2) (x : Vec Ideal S192x1x7168 .bf16) (q : Vec Ideal S5120x3584 .i8) (d dm : Vec Ideal S5120x28 .f16)
    (s t : Vec Ideal S5120x224 .i8) (b : Fin 192) (o : Fin 5120) : EReal :=
  ∑ p : Fin 112, ∑ i : Fin 32, (x (ix3 b 0 (⟨p.val * 64 + 32 * h.val + i.val, by omega⟩ : Fin 7168)) : EReal)
    * (nibble h.val (q (ix2 o (⟨p.val * 32 + i.val, by omega⟩ : Fin 3584)))
        * ((d (ix2 o (⟨p.val / 4, by omega⟩ : Fin 28)) : EReal) * byte (s (ix2 o (⟨p.val * 2 + h.val, by omega⟩ : Fin 224))))
      - (dm (ix2 o (⟨p.val / 4, by omega⟩ : Fin 28)) : EReal) * byte (t (ix2 o (⟨p.val * 2 + h.val, by omega⟩ : Fin 224))))

variable (m : (ℓ : Loc nD τ sig) → Buf (Elt Ideal) ℓ) (ρ : Dev nD → PrngReg)

theorem V_v4 (c : Dev nD) (o : Fin 5120) (p : Fin 112) (i : Fin 32) :
    (V m c main_v4 : Vec Ideal S5120x112x32 .bf16) (ix3 o p i) = nibble 0 (argQ m c (ix2 o (⟨p.val * 32 + i.val, by omega⟩ : Fin 3584))) := by
  unfold V
  after_reads_at
  rfl

theorem V_v7 (c : Dev nD) (o : Fin 5120) (p : Fin 112) (i : Fin 32) :
    (V m c main_v7 : Vec Ideal S5120x112x32 .bf16) (ix3 o p i) = nibble 1 (argQ m c (ix2 o (⟨p.val * 32 + i.val, by omega⟩ : Fin 3584))) := by
  unfold V
  after_reads_at
  rfl

/-- What the region leaves. -/
abbrev after (c : Dev nD) : Valuation τ sig (Elt Ideal) :=
  Pipeline.withArrays (cfgs 0).spec c (V0 m c) (fun w => (dats m 0 c).arrAt w (cfgs 0).N)

theorem after_v80 (c : Dev nD) : after m c (Proc.devRef .tc main_v8_0) = widened (argD m c) :=
  (Pipeline.withArrays_arr (cfgs 0).spec (by exact (by decide : Function.Injective (Pipeline.arrRef spec0))) c (V0 m c)
    (fun w => (dats m 0 c).arrAt w (cfgs 0).N) 2).trans (final2 m c)

theorem after_v81 (c : Dev nD) : after m c (Proc.devRef .tc main_v8_1) = widened (argDm m c) :=
  (Pipeline.withArrays_arr (cfgs 0).spec (by exact (by decide : Function.Injective (Pipeline.arrRef spec0))) c (V0 m c)
    (fun w => (dats m 0 c).arrAt w (cfgs 0).N) 3).trans (final3 m c)

/-- A buffer that is not an array of the region is as the region found it. -/
theorem after_of_ne (c : Dev nD) (b : Ref sig .tc) (h : ∀ w, Pipeline.arrRef spec0 w ≠ b) :
    after m c (Proc.devRef .tc b) = V m c b :=
  Pipeline.withArrays_of_ne _ c (V0 m c) _ b h

/-- The lines after the region, read at an index, from what the buffers they read hold. -/
theorem tail_read (W : Valuation τ sig (Elt Ideal)) (x : S192x1x7168.Idx → EReal) (n₀ n₁ : S5120x112x32.Idx → EReal)
    (d dm : S5120x28.Idx → EReal) (s t : Vec Ideal S5120x224 .i8) (hx : W (Proc.devRef .tc main_arg0) = x)
    (h₀ : W (Proc.devRef .tc main_v4) = n₀) (h₁ : W (Proc.devRef .tc main_v7) = n₁)
    (hd : W (Proc.devRef .tc main_v8_0) = d) (hm : W (Proc.devRef .tc main_v8_1) = dm)
    (hs : W (Proc.devRef .tc main_arg4) = s) (ht : W (Proc.devRef .tc main_arg5) = t) (b : Fin 192) (o : Fin 5120) :
    (StableHlo.after hostOps1 W (Proc.devRef .tc main_v53) : Vec Ideal S192x1x5120 .bf16) (ix3 b 0 o)
      = (∑ p : Fin 112, ∑ i : Fin 32, x (ix3 b 0 (⟨p.val * 64 + i.val, by omega⟩ : Fin 7168))
          * (n₀ (ix3 o p i) * (d (ix2 o (⟨p.val / 4, by omega⟩ : Fin 28))
                * byte (s (ix2 o (⟨p.val / 4 * 8 + p.val % 4 * 2, by omega⟩ : Fin 224))))
            - dm (ix2 o (⟨p.val / 4, by omega⟩ : Fin 28))
                * byte (t (ix2 o (⟨p.val / 4 * 8 + p.val % 4 * 2, by omega⟩ : Fin 224)))))
        + (∑ p : Fin 112, ∑ i : Fin 32, x (ix3 b 0 (⟨p.val * 64 + 32 + i.val, by omega⟩ : Fin 7168))
          * (n₁ (ix3 o p i) * (d (ix2 o (⟨p.val / 4, by omega⟩ : Fin 28))
                * byte (s (ix2 o (⟨p.val / 4 * 8 + (p.val % 4 * 2 + 1), by omega⟩ : Fin 224))))
            - dm (ix2 o (⟨p.val / 4, by omega⟩ : Fin 28))
                * byte (t (ix2 o (⟨p.val / 4 * 8 + (p.val % 4 * 2 + 1), by omega⟩ : Fin 224))))) := by
  subst hx h₀ h₁ hd hm hs ht
  after_reads_at
  unfold byte
  rfl

/-- The returned array at row `b`, column `o`: the two halves added. -/
theorem returned_apply (c : Dev nD) (b : Fin 192) (o : Fin 5120) :
    (Pipeline.afterTail₀ cfgs (dats m) 0 (V0 m) [hostOps1] c main_v53 : Vec Ideal S192x1x5120 .bf16) (ix3 b 0 o)
      = half 0 (argX m c) (argQ m c) (argD m c) (argDm m c) (argS m c) (argM m c) b o
        + half 1 (argX m c) (argQ m c) (argD m c) (argDm m c) (argS m c) (argM m c) b o := by
  have hx := (after_of_ne m c main_arg0 (by decide)).trans (V_main_arg0 m c)
  have hs := (after_of_ne m c main_arg4 (by decide)).trans (V_main_arg4 m c)
  have ht := (after_of_ne m c main_arg5 (by decide)).trans (V_main_arg5 m c)
  have h₀ := after_of_ne m c main_v4 (by decide)
  have h₁ := after_of_ne m c main_v7 (by decide)
  have h := tail_read (after m c) (argX m c) (V m c main_v4) (V m c main_v7) (widened (argD m c)) (widened (argDm m c))
    (argS m c) (argM m c) hx h₀ h₁ (after_v80 m c) (after_v81 m c) hs ht b o
  unfold Pipeline.afterTail₀
  rw [List.flatten_singleton]
  refine h.trans ?_
  unfold half
  refine congrArg₂ (fun u v : EReal => u + v) ?_ ?_
  · refine Finset.sum_congr rfl fun p _ => Finset.sum_congr rfl fun i _ => ?_
    have e : (⟨p.val / 4 * 8 + p.val % 4 * 2, by omega⟩ : Fin 224) = ⟨p.val * 2 + (0 : Fin 2).val, by omega⟩ :=
      Fin.ext (by show p.val / 4 * 8 + p.val % 4 * 2 = p.val * 2 + 0; omega)
    rw [e, V_v4]
    rfl
  · refine Finset.sum_congr rfl fun p _ => Finset.sum_congr rfl fun i _ => ?_
    have e : (⟨p.val / 4 * 8 + (p.val % 4 * 2 + 1), by omega⟩ : Fin 224) = ⟨p.val * 2 + (1 : Fin 2).val, by omega⟩ :=
      Fin.ext (by show p.val / 4 * 8 + (p.val % 4 * 2 + 1) = p.val * 2 + 1; omega)
    rw [e, V_v7]
    rfl

/-- The run, read: the returned array as the lines after the region leave it, the arguments unchanged. -/
theorem run : θ_run defs (onTc (τ := τ) (main (F := Ideal))) ⟨m, fun _ => 0, ρ⟩ (fun r => ∀ c : Dev nD,
      r.2.mem ((c.tc : Thread nD τ).loc main_v53) = Pipeline.afterTail₀ cfgs (dats m) 0 (V0 m) [hostOps1] c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h.1 c).2 main_v53 (Pipeline.mem_restRefs_of main_v53 (by decide) (by decide)), h.2.1 c⟩)
    (θ_run_and (run_main m ρ) (frame m ρ))

end Cert.ReferenceIdeal.Hand

end
-- ==== Proof.Equation.lean ====
/-
  THE EQUATION between the two programs, over the extended reals: the kernel's one sum over 7168 inner positions is the
  reference's two sums over 112 blocks of 32 bytes, position `64 p + 32 h + i` being byte `i` of block `p`, nibble `h`. The
  terms are equal one by one; only sums are regrouped, no product is distributed.
-/
module

public import proofs.«01_k».proof.Proof.Value
public import proofs.«01_k».proof.Proof.Reference

@[expose] public section

set_option maxRecDepth 16384

noncomputable section

namespace Cert.Equation

open Idealize.ShloMosaic
open Cert.KernelIdeal

/-- A sum over the inner positions, by block, nibble and byte. -/
theorem sum_split (f : Fin 7168 → EReal) :
    ∑ k, f k = (∑ p : Fin 112, ∑ i : Fin 32, f ⟨p.val * 64 + 32 * (0 : Fin 2).val + i.val, by omega⟩)
      + ∑ p : Fin 112, ∑ i : Fin 32, f ⟨p.val * 64 + 32 * (1 : Fin 2).val + i.val, by omega⟩ := by
  have h1 : ∑ k, f k = ∑ y : Fin 112 × Fin 64, f (finProdFinEquiv y) :=
    (Equiv.sum_comp (finProdFinEquiv (m := 112) (n := 64)) f).symm
  rw [h1, Fintype.sum_prod_type, ← Finset.sum_add_distrib]
  refine Finset.sum_congr rfl fun p _ => ?_
  have h2 := Fin.sum_univ_add (a := 32) (b := 32) fun r : Fin 64 => f (finProdFinEquiv (p, r))
  refine h2.trans (congrArg₂ (fun u v : EReal => u + v) ?_ ?_)
  · refine Finset.sum_congr rfl fun i _ => congrArg f (Fin.ext ?_)
    show i.val + 64 * p.val = p.val * 64 + 32 * 0 + i.val
    omega
  · refine Finset.sum_congr rfl fun i _ => congrArg f (Fin.ext ?_)
    show (32 + i.val) + 64 * p.val = p.val * 64 + 32 * 1 + i.val
    omega

/-- The low nibble is the same number in 8-bit unsigned and 32-bit signed arithmetic, -/
theorem low_nibble : ∀ b : BitVec 8, ((b &&& 15#8).toNat : ℤ) = (b.setWidth 32 &&& 15#32).toInt := by decide +kernel

/-- and so is the high one. -/
theorem high_nibble : ∀ b : BitVec 8, ((b >>> 4).toNat : ℤ) = (IntOp.shrsi .host (b.setWidth 32) 4#32).toInt := by decide +kernel

theorem nibble_eq (h : Fin 2) (b : BitVec 8) :
    (Cert.KernelIdeal.Hand.nibble (F := Ideal) h.val b : EReal) = Cert.ReferenceIdeal.Hand.nibble h.val b := by
  match h with
  | 0 =>
    show (((b &&& 15#8).toNat : ℝ) : EReal) = (((b.setWidth 32 &&& 15#32).toInt : ℝ) : EReal)
    rw [← low_nibble, Int.cast_natCast]
  | 1 =>
    show (((b >>> 4).toNat : ℝ) : EReal) = (((IntOp.shrsi .host (b.setWidth 32) 4#32).toInt : ℝ) : EReal)
    rw [← high_nibble, Int.cast_natCast]

/-- One weight, at the position of byte `i` of block `p`, nibble `h`. -/
theorem weight_eq (q : Vec Ideal S5120x3584 .i8) (d dm : Vec Ideal S5120x28 .f16) (s t : Vec Ideal S5120x224 .i8) (o : Fin 5120)
    (h : Fin 2) (p : Fin 112) (i : Fin 32) :
    (Cert.KernelIdeal.Hand.weightAt q d dm s t o ⟨p.val * 64 + 32 * h.val + i.val, by omega⟩ : EReal)
      = Cert.ReferenceIdeal.Hand.nibble h.val (q (ix2 o (⟨p.val * 32 + i.val, by omega⟩ : Fin 3584)))
          * ((d (ix2 o (⟨p.val / 4, by omega⟩ : Fin 28)) : EReal)
            * Cert.ReferenceIdeal.Hand.byte (s (ix2 o (⟨p.val * 2 + h.val, by omega⟩ : Fin 224))))
        - (dm (ix2 o (⟨p.val / 4, by omega⟩ : Fin 28)) : EReal)
            * Cert.ReferenceIdeal.Hand.byte (t (ix2 o (⟨p.val * 2 + h.val, by omega⟩ : Fin 224))) := by
  have hh := h.isLt
  have hi := i.isLt
  rw [← nibble_eq]
  have e1 : (p.val * 64 + 32 * h.val + i.val) / 32 = p.val * 2 + h.val := by omega
  have e2 : (p.val * 2 + h.val) % 2 = h.val := by omega
  have e3 : 32 * ((p.val * 64 + 32 * h.val + i.val) / 64) + (p.val * 64 + 32 * h.val + i.val) % 32 = p.val * 32 + i.val := by
    omega
  have e4 : (p.val * 2 + h.val) / 8 = p.val / 4 := by omega
  unfold Cert.KernelIdeal.Hand.weightAt
  simp only [e3, e1, e2, e4]
  rfl

/-- The kernel's product is the reference's two halves added. -/
theorem product_eq (x : Vec Ideal S192x1x7168 .bf16) (q : Vec Ideal S5120x3584 .i8) (d dm : Vec Ideal S5120x28 .f16)
    (s t : Vec Ideal S5120x224 .i8) (b : Fin 192) (o : Fin 5120) :
    Cert.KernelIdeal.Hand.product x q d dm s t b o
      = Cert.ReferenceIdeal.Hand.half 0 x q d dm s t b o + Cert.ReferenceIdeal.Hand.half 1 x q d dm s t b o := by
  unfold Cert.KernelIdeal.Hand.product Cert.ReferenceIdeal.Hand.half
  rw [sum_split]
  simp only [weight_eq]

end Cert.Equation

end
-- ==== Proof.Printed.lean ====
/-
  THE FRAME OF THE PRINTED KERNEL: it terminates with its arguments unchanged and every semaphore counter at zero. Nothing is
  said here of what it computes, so the output block and the scratch buffers are left at contents that no statement names.
-/
module

public import proofs.«01_k».proof.Proof.Gen.Kernel.Skeleton
public import proofs.«01_k».proof.Proof.Gen.Kernel.Loops
public import proofs.«01_k».proof.Proof.Gen.Kernel.Frame
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers that the lines after the region write: computed from the output, which is not named, so nothing is said of them
    either. -/
def T0 : Finset (Ref sig .tc) := {main_v6}

/-- The lines after the region write those buffers alone. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes,
        StableHlo.ternary_writes, StableHlo.quaternary_writes, StableHlo.reshape_writes, StableHlo.binaryIndexed_writes,
        Finset.mem_singleton] at hb; cases Proc.devRef_injective _ hb; decide

/-- The frame claim's post from a run over proof data that leave those buffers out. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by
      decide) (by decide), by decide⟩)).trans (V_main_arg0 m c),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by
          decide⟩)).trans (V_main_arg2 m c),
      ((h c).2 main_arg3 (Finset.mem_sdiff.mpr ⟨Pipeline.mem_restRefs_of main_arg3 (by decide) (by decide), by
          decide⟩)).trans (V_main_arg3 m c),
      ((h c).2 main_arg4 (Finset.mem_sdiff.mpr ⟨Pipeline.mem_restRefs_of main_arg4 (by decide) (by decide), by
          decide⟩)).trans (V_main_arg4 m c),
      ((h c).2 main_arg5 (Finset.mem_sdiff.mpr ⟨Pipeline.mem_restRefs_of main_arg5 (by decide) (by decide), by
          decide⟩)).trans (V_main_arg5 m c)⟩) h

/-! ## One run of the body -/

/-- Each window's current staging memref at point `t`, and the three scratch buffers. -/
abbrev ms0_0 (t : Fin cfg0.N) : Memref sig .tc .vmem S192x7168 .bf16 := win0_0.stage (cfg0.slots t 0)
abbrev ms0_1 (t : Fin cfg0.N) : Memref sig .tc .vmem S512x3584 .i8 := win0_1.stage (cfg0.slots t 1)
abbrev ms0_2 (t : Fin cfg0.N) : Memref sig .tc .vmem S28x512 .f16 := win0_2.stage (cfg0.slots t 2)
abbrev ms0_3 (t : Fin cfg0.N) : Memref sig .tc .vmem S28x512 .f16 := win0_3.stage (cfg0.slots t 3)
abbrev ms0_4 (t : Fin cfg0.N) : Memref sig .tc .vmem S224x512 .i8 := win0_4.stage (cfg0.slots t 4)
abbrev ms0_5 (t : Fin cfg0.N) : Memref sig .tc .vmem S224x512 .i8 := win0_5.stage (cfg0.slots t 5)
abbrev ms0_6 (t : Fin cfg0.N) : Memref sig .tc .vmem S192x512 .bf16 := win0_6.stage (cfg0.slots t 6)
abbrev scM0_0 : Memref sig .tc .vmem S224x512 .i32 := Memref.whole cc0_scratch0
abbrev scM0_1 : Memref sig .tc .vmem S224x512 .i32 := Memref.whole cc0_scratch1
abbrev scM0_2 : Memref sig .tc .vmem S7168x512 .bf16 := Memref.whole cc0_scratch2

/-- The region's scoped memory with the scratch operands as memrefs owned at some contents: what the body is handed and
    gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃
          d, owns (c : Thread nD τ) scM0_2 fullShare d)) ∗ (∃ r, prngReg c r)) := by
  unfold Pipeline.ΦA; rw [scopedRest0_eq]; simp only [scM0_0, scM0_1, scM0_2, owns_whole]; try rfl

-- the run's proof term is large: checking it walks past the default budget
set_option maxHeartbeats 1000000 in
/-- The body's triple: it hands back the inputs' buffers as they were, the output's and the scratch buffers at some contents. -/
theorem kernel_run (c : Dev nD) (i : grid0.Coords) (arg1 : Memref sig .tc .vmem S192x7168 .bf16) (harg1 : arg1.IsWhole) (arg2
    : Memref sig .tc .vmem S512x3584 .i8) (harg2 : arg2.IsWhole) (arg3 : Memref sig .tc .vmem S28x512 .f16) (harg3 :
    arg3.IsWhole) (arg4 : Memref sig .tc .vmem S28x512 .f16) (harg4 : arg4.IsWhole) (arg5 : Memref sig .tc .vmem S224x512
    .i8) (harg5 : arg5.IsWhole) (arg6 : Memref sig .tc .vmem S224x512 .i8) (harg6 : arg6.IsWhole) (arg7 : Memref sig .tc
    .vmem S192x512 .bf16) (harg7 : arg7.IsWhole) (arg8 : Memref sig .tc .vmem S224x512 .i32) (harg8 : arg8.IsWhole) (arg9 :
    Memref sig .tc .vmem S224x512 .i32) (harg9 : arg9.IsWhole) (arg10 : Memref sig .tc .vmem S7168x512 .bf16) (harg10 :
    arg10.IsWhole)
    (x0 : Vec F S192x7168 .bf16) (x1 : Vec F S512x3584 .i8) (x2 : Vec F S28x512 .f16) (x3 : Vec F S28x512 .f16) (x4 : Vec F
        S224x512 .i8) (x5 : Vec F S224x512 .i8) :
      ∀ (E : Set ℕ) (K : PUnit → sProp 𝕄),
        iprop(owns (c : Thread nD τ) arg1 fullShare x0 ∗ owns (c : Thread nD τ) arg2 fullShare x1 ∗ owns (c : Thread nD τ)
            arg3 fullShare x2 ∗ owns (c : Thread nD τ) arg4 fullShare x3 ∗ owns (c : Thread nD τ) arg5 fullShare x4 ∗ owns (c
            : Thread nD τ) arg6 fullShare x5 ∗ (∃ d, owns (c : Thread nD τ) arg7 fullShare d) ∗ (∃ d, owns (c : Thread nD τ)
            arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread
                nD τ) arg3 fullShare x2 ∗ owns (c : Thread nD τ) arg4 fullShare x3 ∗ owns (c : Thread nD τ) arg5 fullShare x4
                ∗ owns (c : Thread nD τ) arg6 fullShare x5 ∗ (∃ d, owns (c : Thread nD τ) arg7 fullShare d) ∗ (∃ d, owns (c :
                Thread nD τ) arg8 fullShare d) ∗ (∃ d, owns (c : Thread nD τ) arg9 fullShare d) ∗ (∃ d, owns (c : Thread nD
                τ) arg10 fullShare d)) -∗ K ⟨⟩))
          ⊢ wp frame (wpE (defs₀ (F := F)) Variants.none c none) E (cc0_q4k_linear i arg1 harg1 arg2 harg2 arg3 harg3 arg4
              harg4 arg5 harg5 arg6 harg6 arg7 harg7 arg8 harg8 arg9 harg9 arg10 harg10) K := by
    intro E K
    simp only [cc0_q4k_linear_eq_skeleton]; unfold cc0_q4k_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6,
        -, H6⟩, ⟨%ds0, %fs0, -, HS0⟩, ⟨%ds1, %fs1, -, HS1⟩, ⟨%ds2, %fs2, -, HS2⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The proof data -/

/-- The output windows forgotten here (6): the frame claim reads nothing of what the kernel leaves in
    them, so nothing of it is named. -/
def forgets0 : Fin 7 → Bool := fun w => w.val == 6

/-- The proof data of the one pipeline on core `c`: the arrays as the region finds them (`V`); after the body at
    point `t` each input's buffer at its block and the forgotten output at contents not named; the invariant the scratch
    buffers at some contents and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`). -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 800000 in
/-- The body at any point: the inputs' buffers hold their blocks (`before0_W`), so the run applies; the invariant hands the body
    its scratch buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernel_run c (grid0.coords t) _ _ _ _ _ _ _ _ _ _ _ _ _ _ _ _ _ _ _ _ (iblk m c 0 t) (iblk m c 1 t) (iblk m c 2 t)
      (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ
    forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes
-- unfolding plain definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0)
    (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
        (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    forgotten output (window 6), and every other unscoped buffer outside `T0` at its region-entry contents. -/
theorem run_main : θ_run defs (onTc (τ := τ) (main (F := F))) (s₀ m ρ) (Pipeline.RDat.FramePostR (cfgs 0) (fun c => (dats m 0
    c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.lean ====
/-
  THE CLAIM. The kernel and its idealization terminate with their arguments unchanged and every counter at zero, and so does
  the reference; the idealization keeps the kernel's meaning at every packed word; over the extended reals the idealization
  and the reference return the same array.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import proofs.«01_k».proof.Proof.Printed
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- Over the extended reals the two programs return the same array. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => shapeCast Cert.KernelIdeal.S192x1x5120 (Cert.KernelIdeal.Hand.result m c)
    Cert.KernelIdeal.Facts₀.shapeCasts_S192x5120_S192x1x5120, Cert.KernelIdeal.Hand.run m g, ?_⟩
  refine θ_run_mono (Cert.ReferenceIdeal.Hand.run m' g') fun r h c => ⟨(h c).1.trans ?_, (h c).2⟩
  obtain ⟨h0, h1, h2, h3, h4, h5⟩ := hagree c
  have key : ∀ (b : Fin 192) (o : Fin 5120),
      (Pipeline.afterTail₀ Cert.ReferenceIdeal.cfgs (Cert.ReferenceIdeal.Gen.dats m') 0 (Cert.ReferenceIdeal.Gen.V0 m')
          [Cert.ReferenceIdeal.Gen.hostOps1] c Cert.ReferenceIdeal.main_v53 : Vec Ideal Cert.ReferenceIdeal.S192x1x5120 .bf16)
          (ix3 b 0 o)
        = shapeCast Cert.KernelIdeal.S192x1x5120 (Cert.KernelIdeal.Hand.result m c)
          Cert.KernelIdeal.Facts₀.shapeCasts_S192x5120_S192x1x5120 (ix3 b 0 o) := by
    intro b o
    rw [Cert.ReferenceIdeal.Hand.returned_apply, Cert.KernelIdeal.Hand.returned_apply, Cert.Equation.product_eq,
      Cert.ReferenceIdeal.Hand.argX, Cert.ReferenceIdeal.Hand.argQ, Cert.ReferenceIdeal.Hand.argD,
      Cert.ReferenceIdeal.Hand.argDm, Cert.ReferenceIdeal.Hand.argS, Cert.ReferenceIdeal.Hand.argM, h0, h1, h2, h3, h4, h5]
  funext i
  obtain ⟨b, z, o, rfl⟩ : ∃ (b : Fin 192) (z : Fin 1) (o : Fin 5120), i = ix3 b z o := ⟨i 0, i 1, i 2, eq_ix3 i⟩
  obtain rfl : z = 0 := Subsingleton.elim _ _
  exact key b o

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  ⟨IdealRules.bf16_pair.bufferStatement _ _, IdealRules.bf16_pair.packStatement _, IdealRules.bf16_pair.statement _ _,
    IdealRules.bf16_pair.statement _ _, IdealRules.bf16_pair.statement _ _⟩,
  algebraic⟩

end Cert.Proof

end
